-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13)
      ∧ r.2.mem ((c.tc : Thread Cert.Reference.nD Cert.Reference.τ).loc Cert.Reference.main_arg14) = m ((c.tc : Thread Cert.Reference.nD Cert.Reference.τ).loc Cert.Reference.main_arg14)
      ∧ r.2.mem ((c.tc : Thread Cert.Reference.nD Cert.Reference.τ).loc Cert.Reference.main_arg15) = m ((c.tc : Thread Cert.Reference.nD Cert.Reference.τ).loc Cert.Reference.main_arg15))
      ∧ r.2.sem = fun _ => 0)

def preserves_Kernel_KernelIdeal : Prop :=
  IdealRules.named_const.Statement Cert.KernelIdeal.κ "sqrt_half" .f32 0x3F3504F3#32 ((Real.sqrt (1 / 2) : ℝ) : EReal)

def preserves_Reference_ReferenceIdeal : Prop :=
  IdealRules.named_const.Statement Cert.ReferenceIdeal.κ "sqrt_half" .f32 0x3F3504F3#32 ((Real.sqrt (1 / 2) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)) (v3 : (c : Dev Cert.KernelIdeal.nD) → Buf (Elt Ideal) ((c.tc : Thread Cert.KernelIdeal.nD Cert.KernelIdeal.τ).loc Cert.KernelIdeal.main_v41_3)) (v4 : (c : Dev Cert.KernelIdeal.nD) → Buf (Elt Ideal) ((c.tc : Thread Cert.KernelIdeal.nD Cert.KernelIdeal.τ).loc Cert.KernelIdeal.main_v41_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_v41_3) = v3 c
          ∧ r.2.mem ((c.tc : Thread Cert.KernelIdeal.nD Cert.KernelIdeal.τ).loc Cert.KernelIdeal.main_v41_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S1x8x90x360x192 : Shape := ⟨5, ![1, 8, 90, 360, 192]⟩
abbrev S8x30x3x192x360 : Shape := ⟨5, ![8, 30, 3, 192, 360]⟩
abbrev S30x3x8x360 : Shape := ⟨4, ![30, 3, 8, 360]⟩
abbrev S6x32x192 : Shape := ⟨3, ![6, 32, 192]⟩
abbrev S192 : Shape := ⟨1, ![192]⟩
abbrev S192x768 : Shape := ⟨2, ![192, 768]⟩
abbrev S768 : Shape := ⟨1, ![768]⟩
abbrev S768x192 : Shape := ⟨2, ![768, 192]⟩
abbrev S8x90x360x192 : Shape := ⟨4, ![8, 90, 360, 192]⟩
abbrev S8x90x192x360 : Shape := ⟨4, ![8, 90, 192, 360]⟩
abbrev S256x256 : Shape := ⟨2, ![256, 256]⟩
abbrev S_ : Shape := ⟨0, ![]⟩
abbrev S90x8x360 : Shape := ⟨3, ![90, 8, 360]⟩
abbrev S192x1 : Shape := ⟨2, ![192, 1]⟩
abbrev S192x128 : Shape := ⟨2, ![192, 128]⟩
abbrev S1x192x128 : Shape := ⟨3, ![1, 192, 128]⟩
abbrev S8x192x128 : Shape := ⟨3, ![8, 192, 128]⟩
abbrev S1x768 : Shape := ⟨2, ![1, 768]⟩
abbrev S2x768 : Shape := ⟨2, ![2, 768]⟩
abbrev S192x192 : Shape := ⟨2, ![192, 192]⟩
abbrev S8x90x360x768 : Shape := ⟨4, ![8, 90, 360, 768]⟩
abbrev S8x1x192x360 : Shape := ⟨4, ![8, 1, 192, 360]⟩
abbrev S1x8x360 : Shape := ⟨3, ![1, 8, 360]⟩
abbrev S8x1x360x768 : Shape := ⟨4, ![8, 1, 360, 768]⟩
abbrev S192x384 : Shape := ⟨2, ![192, 384]⟩
abbrev S1x1x192x360 : Shape := ⟨4, ![1, 1, 192, 360]⟩
abbrev S192x360 : Shape := ⟨2, ![192, 360]⟩
abbrev S1x8x128 : Shape := ⟨3, ![1, 8, 128]⟩
abbrev S8x128 : Shape := ⟨2, ![8, 128]⟩
abbrev S128 : Shape := ⟨1, ![128]⟩
abbrev S1x128 : Shape := ⟨2, ![1, 128]⟩
abbrev S1x1x192x128 : Shape := ⟨4, ![1, 1, 192, 128]⟩
abbrev S1x8x104 : Shape := ⟨3, ![1, 8, 104]⟩
abbrev S8x104 : Shape := ⟨2, ![8, 104]⟩
abbrev S104 : Shape := ⟨1, ![104]⟩
abbrev S1x104 : Shape := ⟨2, ![1, 104]⟩
abbrev S192x104 : Shape := ⟨2, ![192, 104]⟩
abbrev S1x1x192x104 : Shape := ⟨4, ![1, 1, 192, 104]⟩
abbrev S128x128 : Shape := ⟨2, ![128, 128]⟩
abbrev S128x192 : Shape := ⟨2, ![128, 192]⟩
abbrev S128x768 : Shape := ⟨2, ![128, 768]⟩
abbrev S32x128 : Shape := ⟨2, ![32, 128]⟩
abbrev S32x768 : Shape := ⟨2, ![32, 768]⟩
abbrev S32 : Shape := ⟨1, ![32]⟩
abbrev S32x1 : Shape := ⟨2, ![32, 1]⟩
abbrev S1x1x128x768 : Shape := ⟨4, ![1, 1, 128, 768]⟩
abbrev S1x24 : Shape := ⟨2, ![1, 24]⟩
abbrev S104x768 : Shape := ⟨2, ![104, 768]⟩
abbrev S1x1x104x768 : Shape := ⟨4, ![1, 1, 104, 768]⟩

abbrev nBuf : Space → Nat
  | .hbm => 63
  | .vmem => 24
  | .smem => 0
  | _ => 0

abbrev bufTy : (tb : Table) → Fin (tcTables nBuf tb) → BufTy
  | .hbm, ⟨0, _⟩ => ⟨S1x8x90x360x192, .bf16⟩
  | .hbm, ⟨1, _⟩ => ⟨S8x30x3x192x360, .fp8e4m3⟩
  | .hbm, ⟨2, _⟩ => ⟨S30x3x8x360, .f32⟩
  | .hbm, ⟨3, _⟩ => ⟨S6x32x192, .fp8e4m3⟩
  | .hbm, ⟨4, _⟩ => ⟨S192, .f32⟩
  | .hbm, ⟨5, _⟩ => ⟨S192, .f32⟩
  | .hbm, ⟨6, _⟩ => ⟨S192x768, .fp8e4m3⟩
  | .hbm, ⟨7, _⟩ => ⟨S768, .f32⟩
  | .hbm, ⟨8, _⟩ => ⟨S768, .f32⟩
  | .hbm, ⟨9, _⟩ => ⟨S768x192, .fp8e4m3⟩
  | .hbm, ⟨10, _⟩ => ⟨S192, .f32⟩
  | .hbm, ⟨11, _⟩ => ⟨S192, .f32⟩
  | .hbm, ⟨12, _⟩ => ⟨S192, .f32⟩
  | .hbm, ⟨13, _⟩ => ⟨S192, .f32⟩
  | .hbm, ⟨14, _⟩ => ⟨S192, .f32⟩
  | .hbm, ⟨15, _⟩ => ⟨S192, .f32⟩
  | .hbm, ⟨16, _⟩ => ⟨S8x90x360x192, .bf16⟩
  | .hbm, ⟨17, _⟩ => ⟨S8x90x192x360, .bf16⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .i1⟩
  | .hbm, ⟨24, _⟩ => ⟨S256x256, .f32⟩
  | .hbm, ⟨25, _⟩ => ⟨S8x90x192x360, .fp8e4m3⟩
  | .hbm, ⟨26, _⟩ => ⟨S90x8x360, .f32⟩
  | .hbm, ⟨27, _⟩ => ⟨S192x1, .f32⟩
  | .hbm, ⟨28, _⟩ => ⟨S192x128, .f32⟩
  | .hbm, ⟨29, _⟩ => ⟨S192x1, .f32⟩
  | .hbm, ⟨30, _⟩ => ⟨S192x128, .f32⟩
  | .hbm, ⟨31, _⟩ => ⟨S192x1, .f32⟩
  | .hbm, ⟨32, _⟩ => ⟨S192x128, .f32⟩
  | .hbm, ⟨33, _⟩ => ⟨S192x1, .f32⟩
  | .hbm, ⟨34, _⟩ => ⟨S192x128, .f32⟩
  | .hbm, ⟨35, _⟩ => ⟨S192x1, .f32⟩
  | .hbm, ⟨36, _⟩ => ⟨S192x128, .f32⟩
  | .hbm, ⟨37, _⟩ => ⟨S192x1, .f32⟩
  | .hbm, ⟨38, _⟩ => ⟨S192x128, .f32⟩
  | .hbm, ⟨39, _⟩ => ⟨S192x1, .f32⟩
  | .hbm, ⟨40, _⟩ => ⟨S192x128, .f32⟩
  | .hbm, ⟨41, _⟩ => ⟨S192x1, .f32⟩
  | .hbm, ⟨42, _⟩ => ⟨S192x128, .f32⟩
  | .hbm, ⟨43, _⟩ => ⟨S1x192x128, .f32⟩
  | .hbm, ⟨44, _⟩ => ⟨S1x192x128, .f32⟩
  | .hbm, ⟨45, _⟩ => ⟨S1x192x128, .f32⟩
  | .hbm, ⟨46, _⟩ => ⟨S1x192x128, .f32⟩
  | .hbm, ⟨47, _⟩ => ⟨S1x192x128, .f32⟩
  | .hbm, ⟨48, _⟩ => ⟨S1x192x128, .f32⟩
  | .hbm, ⟨49, _⟩ => ⟨S1x192x128, .f32⟩
  | .hbm, ⟨50, _⟩ => ⟨S1x192x128, .f32⟩
  | .hbm, ⟨51, _⟩ => ⟨S8x192x128, .f32⟩
  | .hbm, ⟨52, _⟩ => ⟨S1x768, .f32⟩
  | .hbm, ⟨53, _⟩ => ⟨S1x768, .f32⟩
  | .hbm, ⟨54, _⟩ => ⟨S2x768, .f32⟩
  | .hbm, ⟨55, _⟩ => ⟨S192x192, .fp8e4m3⟩
  | .hbm, ⟨56, _⟩ => ⟨S192x192, .fp8e4m3⟩
  | .hbm, ⟨57, _⟩ => ⟨S192x768, .fp8e4m3⟩
  | .hbm, ⟨58, _⟩ => ⟨S8x90x192x360, .bf16⟩
  | .hbm, ⟨59, _⟩ => ⟨S8x90x192x360, .fp8e4m3⟩
  | .hbm, ⟨60, _⟩ => ⟨S90x8x360, .f32⟩
  | .hbm, ⟨61, _⟩ => ⟨S8x90x360x768, .fp8e4m3⟩
  | .hbm, ⟨62, _⟩ => ⟨S90x8x360, .f32⟩
  | .local _ .vmem, ⟨0, _⟩ => ⟨S8x1x192x360, .bf16⟩
  | .local _ .vmem, ⟨1, _⟩ => ⟨S8x1x192x360, .bf16⟩
  | .local _ .vmem, ⟨2, _⟩ => ⟨S8x1x192x360, .fp8e4m3⟩
  | .local _ .vmem, ⟨3, _⟩ => ⟨S8x1x192x360, .fp8e4m3⟩
  | .local _ .vmem, ⟨4, _⟩ => ⟨S1x8x360, .f32⟩
  | .local _ .vmem, ⟨5, _⟩ => ⟨S1x8x360, .f32⟩
  | .local _ .vmem, ⟨6, _⟩ => ⟨S192x192, .fp8e4m3⟩
  | .local _ .vmem, ⟨7, _⟩ => ⟨S192x768, .fp8e4m3⟩
  | .local _ .vmem, ⟨8, _⟩ => ⟨S192x768, .fp8e4m3⟩
  | .local _ .vmem, ⟨9, _⟩ => ⟨S8x192x128, .f32⟩
  | .local _ .vmem, ⟨10, _⟩ => ⟨S2x768, .f32⟩
  | .local _ .vmem, ⟨11, _⟩ => ⟨S256x256, .f32⟩
  | .local _ .vmem, ⟨12, _⟩ => ⟨S8x1x192x360, .bf16⟩
  | .local _ .vmem, ⟨13, _⟩ => ⟨S8x1x192x360, .bf16⟩
  | .local _ .vmem, ⟨14, _⟩ => ⟨S8x1x192x360, .fp8e4m3⟩
  | .local _ .vmem, ⟨15, _⟩ => ⟨S8x1x192x360, .fp8e4m3⟩
  | .local _ .vmem, ⟨16, _⟩ => ⟨S1x8x360, .f32⟩
  | .local _ .vmem, ⟨17, _⟩ => ⟨S1x8x360, .f32⟩
  | .local _ .vmem, ⟨18, _⟩ => ⟨S8x1x360x768, .fp8e4m3⟩
  | .local _ .vmem, ⟨19, _⟩ => ⟨S8x1x360x768, .fp8e4m3⟩
  | .local _ .vmem, ⟨20, _⟩ => ⟨S1x8x360, .f32⟩
  | .local _ .vmem, ⟨21, _⟩ => ⟨S1x8x360, .f32⟩
  | .local _ .vmem, ⟨22, _⟩ => ⟨S192x384, .fp8e4m3⟩
  | .local _ .vmem, ⟨23, _⟩ => ⟨S192x384, .f32⟩
  | _, _ => ⟨S1x8x90x360x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v41_2 : Ref sig .tc := ⟨.hbm, 60, rfl⟩
abbrev main_v41_3 : Ref sig .tc := ⟨.hbm, 61, rfl⟩
abbrev main_v41_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![90], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off1 (k0_t1 : Fin k0_t1_loop.trips) : Fin 4 → Nat :=
  let c0_i32_4 : BitVec 32 := 0#32
  let c0_i32_1 : BitVec 32 := 0#32
  let c1_i32 : BitVec 32 := 1#32
  let arg17 : BitVec 32 := Scf.iv c0_i32_1 c1_i32 k0_t1
  let c1_i32_3 : BitVec 32 := 1#32
  let v4 : BitVec 32 := Scalar.muli arg17 c1_i32_3
  let v5 : BitVec 32 := Scalar.addi c0_i32_4 v4
  let v8 : Index := Scalar.indexCast v5
  let c0_6 : Index := 0#32
  let c0_7 : Index := 0#32
  let c0_8 : Index := 0#32
  ![v8.toNat, 0, 0, 0]
def k0_off2 (k0_t1 : Fin k0_t1_loop.trips) : Fin 4 → Nat :=
  let c0_i32_4 : BitVec 32 := 0#32
  let c0_i32_1 : BitVec 32 := 0#32
  let c1_i32 : BitVec 32 := 1#32
  let arg17 : BitVec 32 := Scf.iv c0_i32_1 c1_i32 k0_t1
  let c1_i32_3 : BitVec 32 := 1#32
  let v4 : BitVec 32 := Scalar.muli arg17 c1_i32_3
  let v5 : BitVec 32 := Scalar.addi c0_i32_4 v4
  let v54 : Index := Scalar.indexCast v5
  let c0_29 : Index := 0#32
  let c0_30 : Index := 0#32
  let c0_31 : Index := 0#32
  ![v54.toNat, 0, 0, 0]
def k0_off3 (k0_t1 : Fin k0_t1_loop.trips) : Fin 4 → Nat :=
  let c0_i32_4 : BitVec 32 := 0#32
  let c0_i32_1 : BitVec 32 := 0#32
  let c1_i32 : BitVec 32 := 1#32
  let arg17 : BitVec 32 := Scf.iv c0_i32_1 c1_i32 k0_t1
  let c1_i32_3 : BitVec 32 := 1#32
  let v4 : BitVec 32 := Scalar.muli arg17 c1_i32_3
  let v5 : BitVec 32 := Scalar.addi c0_i32_4 v4
  let v138 : Index := Scalar.indexCast v5
  let c0_71 : Index := 0#32
  let c0_72 : Index := 0#32
  let c128_73 : Index := 128#32
  ![v138.toNat, 0, 0, 128]
def k0_off4 (k0_t1 : Fin k0_t1_loop.trips) : Fin 4 → Nat :=
  let c0_i32_4 : BitVec 32 := 0#32
  let c0_i32_1 : BitVec 32 := 0#32
  let c1_i32 : BitVec 32 := 1#32
  let arg17 : BitVec 32 := Scf.iv c0_i32_1 c1_i32 k0_t1
  let c1_i32_3 : BitVec 32 := 1#32
  let v4 : BitVec 32 := Scalar.muli arg17 c1_i32_3
  let v5 : BitVec 32 := Scalar.addi c0_i32_4 v4
  let v226 : Index := Scalar.indexCast v5
  let c0_113 : Index := 0#32
  let c0_114 : Index := 0#32
  let c256_115 : Index := 256#32
  ![v226.toNat, 0, 0, 256]
def k0_off5 (k0_t1 : Fin k0_t1_loop.trips) : Fin 4 → Nat :=
  let c0_i32_4 : BitVec 32 := 0#32
  let c0_i32_1 : BitVec 32 := 0#32
  let c1_i32 : BitVec 32 := 1#32
  let arg17 : BitVec 32 := Scf.iv c0_i32_1 c1_i32 k0_t1
  let c1_i32_3 : BitVec 32 := 1#32
  let v4 : BitVec 32 := Scalar.muli arg17 c1_i32_3
  let v5 : BitVec 32 := Scalar.addi c0_i32_4 v4
  let v467 : Index := Scalar.indexCast v5
  let c0_209 : Index := 0#32
  let c0_210 : Index := 0#32
  let c0_211 : Index := 0#32
  ![v467.toNat, 0, 0, 0]
def k0_off6 (k0_t1 : Fin k0_t1_loop.trips) : Fin 4 → Nat :=
  let c0_i32_4 : BitVec 32 := 0#32
  let c0_i32_1 : BitVec 32 := 0#32
  let c1_i32 : BitVec 32 := 1#32
  let arg17 : BitVec 32 := Scf.iv c0_i32_1 c1_i32 k0_t1
  let c1_i32_3 : BitVec 32 := 1#32
  let v4 : BitVec 32 := Scalar.muli arg17 c1_i32_3
  let v5 : BitVec 32 := Scalar.addi c0_i32_4 v4
  let v721 : Index := Scalar.indexCast v5
  let c0_313 : Index := 0#32
  let c128_314 : Index := 128#32
  let c0_315 : Index := 0#32
  ![v721.toNat, 0, 128, 0]
def k0_off7 (k0_t1 : Fin k0_t1_loop.trips) : Fin 4 → Nat :=
  let c0_i32_4 : BitVec 32 := 0#32
  let c0_i32_1 : BitVec 32 := 0#32
  let c1_i32 : BitVec 32 := 1#32
  let arg17 : BitVec 32 := Scf.iv c0_i32_1 c1_i32 k0_t1
  let c1_i32_3 : BitVec 32 := 1#32
  let v4 : BitVec 32 := Scalar.muli arg17 c1_i32_3
  let v5 : BitVec 32 := Scalar.addi c0_i32_4 v4
  let v978 : Index := Scalar.indexCast v5
  let c0_422 : Index := 0#32
  let c256_423 : Index := 256#32
  let c0_424 : Index := 0#32
  ![v978.toNat, 0, 256, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x192x360 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x192x360 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x360 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x768 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1x192x360 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1x192x360 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x360 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x360x768 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x360 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "sqrt_half" => some ((Real.sqrt (1 / 2) : ℝ) : EReal)
  | _ => none
-- ==== ReferenceIdeal.lean ====
variable {F : FTy → Type} [FloatOps F] [Named F]
def κ : String → Option EReal := fun
  | "sqrt_half" => some ((Real.sqrt (1 / 2) : ℝ) : EReal)
  | _ => none
-- ==== Reference.lean ====
abbrev S1x8x90x360x192 : Shape := ⟨5, ![1, 8, 90, 360, 192]⟩
abbrev S8x30x3x192x360 : Shape := ⟨5, ![8, 30, 3, 192, 360]⟩
abbrev S30x3x8x360 : Shape := ⟨4, ![30, 3, 8, 360]⟩
abbrev S6x32x192 : Shape := ⟨3, ![6, 32, 192]⟩
abbrev S192 : Shape := ⟨1, ![192]⟩
abbrev S192x768 : Shape := ⟨2, ![192, 768]⟩
abbrev S768 : Shape := ⟨1, ![768]⟩
abbrev S768x192 : Shape := ⟨2, ![768, 192]⟩
abbrev S8x90x192x360 : Shape := ⟨4, ![8, 90, 192, 360]⟩
abbrev S90x8x360 : Shape := ⟨3, ![90, 8, 360]⟩
abbrev S8x90x360x768 : Shape := ⟨4, ![8, 90, 360, 768]⟩
abbrev S259200x192 : Shape := ⟨2, ![259200, 192]⟩
abbrev S8x90x360x192 : Shape := ⟨4, ![8, 90, 360, 192]⟩
abbrev S8x90x360 : Shape := ⟨3, ![8, 90, 360]⟩
abbrev S259200 : Shape := ⟨1, ![259200]⟩
abbrev S192x192 : Shape := ⟨2, ![192, 192]⟩
abbrev S259200x1 : Shape := ⟨2, ![259200, 1]⟩
abbrev S1x192 : Shape := ⟨2, ![1, 192]⟩
abbrev S259200x768 : Shape := ⟨2, ![259200, 768]⟩
abbrev S1x768 : Shape := ⟨2, ![1, 768]⟩

abbrev nBuf : Space → Nat
  | .hbm => 21
  | .vmem => 21
  | .smem => 0
  | _ => 0

abbrev bufTy : (tb : Table) → Fin (tcTables nBuf tb) → BufTy
  | .hbm, ⟨0, _⟩ => ⟨S1x8x90x360x192, .bf16⟩
  | .hbm, ⟨1, _⟩ => ⟨S8x30x3x192x360, .fp8e4m3⟩
  | .hbm, ⟨2, _⟩ => ⟨S30x3x8x360, .f32⟩
  | .hbm, ⟨3, _⟩ => ⟨S6x32x192, .fp8e4m3⟩
  | .hbm, ⟨4, _⟩ => ⟨S192, .f32⟩
  | .hbm, ⟨5, _⟩ => ⟨S192, .f32⟩
  | .hbm, ⟨6, _⟩ => ⟨S192x768, .fp8e4m3⟩
  | .hbm, ⟨7, _⟩ => ⟨S768, .f32⟩
  | .hbm, ⟨8, _⟩ => ⟨S768, .f32⟩
  | .hbm, ⟨9, _⟩ => ⟨S768x192, .fp8e4m3⟩
  | .hbm, ⟨10, _⟩ => ⟨S192, .f32⟩
  | .hbm, ⟨11, _⟩ => ⟨S192, .f32⟩
  | .hbm, ⟨12, _⟩ => ⟨S192, .f32⟩
  | .hbm, ⟨13, _⟩ => ⟨S192, .f32⟩
  | .hbm, ⟨14, _⟩ => ⟨S192, .f32⟩
  | .hbm, ⟨15, _⟩ => ⟨S192, .f32⟩
  | .hbm, ⟨16, _⟩ => ⟨S8x90x192x360, .bf16⟩
  | .hbm, ⟨17, _⟩ => ⟨S8x90x192x360, .fp8e4m3⟩
  | .hbm, ⟨18, _⟩ => ⟨S90x8x360, .f32⟩
  | .hbm, ⟨19, _⟩ => ⟨S8x90x360x768, .fp8e4m3⟩
  | .hbm, ⟨20, _⟩ => ⟨S90x8x360, .f32⟩
  | .local _ .vmem, ⟨0, _⟩ => ⟨S1x8x90x360x192, .bf16⟩
  | .local _ .vmem, ⟨1, _⟩ => ⟨S8x30x3x192x360, .fp8e4m3⟩
  | .local _ .vmem, ⟨2, _⟩ => ⟨S30x3x8x360, .f32⟩
  | .local _ .vmem, ⟨3, _⟩ => ⟨S6x32x192, .fp8e4m3⟩
  | .local _ .vmem, ⟨4, _⟩ => ⟨S192, .f32⟩
  | .local _ .vmem, ⟨5, _⟩ => ⟨S192, .f32⟩
  | .local _ .vmem, ⟨6, _⟩ => ⟨S192x768, .fp8e4m3⟩
  | .local _ .vmem, ⟨7, _⟩ => ⟨S768, .f32⟩
  | .local _ .vmem, ⟨8, _⟩ => ⟨S768, .f32⟩
  | .local _ .vmem, ⟨9, _⟩ => ⟨S768x192, .fp8e4m3⟩
  | .local _ .vmem, ⟨10, _⟩ => ⟨S192, .f32⟩
  | .local _ .vmem, ⟨11, _⟩ => ⟨S192, .f32⟩
  | .local _ .vmem, ⟨12, _⟩ => ⟨S192, .f32⟩
  | .local _ .vmem, ⟨13, _⟩ => ⟨S192, .f32⟩
  | .local _ .vmem, ⟨14, _⟩ => ⟨S192, .f32⟩
  | .local _ .vmem, ⟨15, _⟩ => ⟨S192, .f32⟩
  | .local _ .vmem, ⟨16, _⟩ => ⟨S8x90x192x360, .bf16⟩
  | .local _ .vmem, ⟨17, _⟩ => ⟨S8x90x192x360, .fp8e4m3⟩
  | .local _ .vmem, ⟨18, _⟩ => ⟨S90x8x360, .f32⟩
  | .local _ .vmem, ⟨19, _⟩ => ⟨S8x90x360x768, .fp8e4m3⟩
  | .local _ .vmem, ⟨20, _⟩ => ⟨S90x8x360, .f32⟩
  | _, _ => ⟨S1x8x90x360x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x8x90x360x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x30x3x192x360 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30x3x8x360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x32x192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x768 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x90x192x360 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x90x192x360 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S90x8x360 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S8x90x360x768 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S90x8x360 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Proof.Kernel.Trip.lean ====
/- One trip of the level loop of the projection and MLP kernel. -/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- What one trip of the level loop reads and writes: the nine inputs, the five outputs and the two scratch arrays, each
    whole at the given contents. -/
abbrev Res (c : Dev nD) (arg1 : Memref sig .tc .vmem S8x1x192x360 .bf16) (arg2 : Memref sig .tc .vmem S8x1x192x360 .fp8e4m3) (arg3 : Memref sig .tc .vmem S1x8x360 .f32) (arg4 : Memref sig .tc .vmem S192x192 .fp8e4m3) (arg5 : Memref sig .tc .vmem S192x768 .fp8e4m3) (arg6 : Memref sig .tc .vmem S192x768 .fp8e4m3) (arg7 : Memref sig .tc .vmem S8x192x128 .f32) (arg8 : Memref sig .tc .vmem S2x768 .f32) (arg9 : Memref sig .tc .vmem S256x256 .f32) (arg10 : Memref sig .tc .vmem S8x1x192x360 .bf16) (arg11 : Memref sig .tc .vmem S8x1x192x360 .fp8e4m3) (arg12 : Memref sig .tc .vmem S1x8x360 .f32) (arg13 : Memref sig .tc .vmem S8x1x360x768 .fp8e4m3) (arg14 : Memref sig .tc .vmem S1x8x360 .f32) (arg15 : Memref sig .tc .vmem S192x384 .fp8e4m3) (arg16 : Memref sig .tc .vmem S192x384 .f32) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

variable (c : Dev nD) (i : grid0.Coords) (arg1 : Memref sig .tc .vmem S8x1x192x360 .bf16) (harg1 : arg1.IsWhole) (arg2 : Memref sig .tc .vmem S8x1x192x360 .fp8e4m3) (harg2 : arg2.IsWhole) (arg3 : Memref sig .tc .vmem S1x8x360 .f32) (harg3 : arg3.IsWhole) (arg4 : Memref sig .tc .vmem S192x192 .fp8e4m3) (harg4 : arg4.IsWhole) (arg5 : Memref sig .tc .vmem S192x768 .fp8e4m3) (harg5 : arg5.IsWhole) (arg6 : Memref sig .tc .vmem S192x768 .fp8e4m3) (harg6 : arg6.IsWhole) (arg7 : Memref sig .tc .vmem S8x192x128 .f32) (harg7 : arg7.IsWhole) (arg8 : Memref sig .tc .vmem S2x768 .f32) (harg8 : arg8.IsWhole) (arg9 : Memref sig .tc .vmem S256x256 .f32) (harg9 : arg9.IsWhole) (arg10 : Memref sig .tc .vmem S8x1x192x360 .bf16) (harg10 : arg10.IsWhole) (arg11 : Memref sig .tc .vmem S8x1x192x360 .fp8e4m3) (harg11 : arg11.IsWhole) (arg12 : Memref sig .tc .vmem S1x8x360 .f32) (harg12 : arg12.IsWhole) (arg13 : Memref sig .tc .vmem S8x1x360x768 .fp8e4m3) (harg13 : arg13.IsWhole) (arg14 : Memref sig .tc .vmem S1x8x360 .f32) (harg14 : arg14.IsWhole) (arg15 : Memref sig .tc .vmem S192x384 .fp8e4m3) (harg15 : arg15.IsWhole) (arg16 : Memref sig .tc .vmem S192x384 .f32) (harg16 : arg16.IsWhole)

set_option maxHeartbeats 4000000 in
set_option sl_exec.resultNames true in
/-- One trip of the level loop, run once at a symbolic level: the inputs stay as they are, and the seven written arrays end
    at contents which the run finds (the first components), as functions of what the trip reads. -/
@[irreducible] def trip (k : Fin k0_t1_loop.trips) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    Σ' (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))), { g16 : Buf (Elt F) (arg16.view.loc (c : Thread nD τ)) //
      (Res c arg1 arg2 arg3 arg4 arg5 arg6 arg7 arg8 arg9 arg10 arg11 arg12 arg13 arg14 arg15 arg16 f1 f2 f3 f4 f5 f6 f7 f8 f9 f10 f11 f12 f13 f14 f15 f16 : sProp 𝕄)
        ⊢ wp frame (wpE (defs₀ (F := F)) Variants.none (c : Thread nD τ) none) Set.univ (Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k ())
          (fun _ => Res c arg1 arg2 arg3 arg4 arg5 arg6 arg7 arg8 arg9 arg10 arg11 arg12 arg13 arg14 arg15 arg16 f1 f2 f3 f4 f5 f6 f7 f8 f9 g10 g11 g12 g13 g14 g15 g16) } := by
  refine ⟨?g10, ?g11, ?g12, ?g13, ?g14, ?g15, ?g16, ?run⟩
  case run =>
    unfold Gen.k0_t1_body
    iintro ⟨H1, H2, H3, H4, H5, H6, H7, H8, H9, H10, H11, H12, H13, H14, H15, H16⟩
    sl_exec_parts
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Proof.Kernel

end
-- ==== Proof.Kernel.Run.lean ====
/- The run of the projection and MLP kernel: loop, body, launch. -/
module

public import proofs.«01_k».proof.Proof.Kernel.Trip

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (c : Dev nD) (i : grid0.Coords) (arg1 : Memref sig .tc .vmem S8x1x192x360 .bf16) (harg1 : arg1.IsWhole) (arg2 : Memref sig .tc .vmem S8x1x192x360 .fp8e4m3) (harg2 : arg2.IsWhole) (arg3 : Memref sig .tc .vmem S1x8x360 .f32) (harg3 : arg3.IsWhole) (arg4 : Memref sig .tc .vmem S192x192 .fp8e4m3) (harg4 : arg4.IsWhole) (arg5 : Memref sig .tc .vmem S192x768 .fp8e4m3) (harg5 : arg5.IsWhole) (arg6 : Memref sig .tc .vmem S192x768 .fp8e4m3) (harg6 : arg6.IsWhole) (arg7 : Memref sig .tc .vmem S8x192x128 .f32) (harg7 : arg7.IsWhole) (arg8 : Memref sig .tc .vmem S2x768 .f32) (harg8 : arg8.IsWhole) (arg9 : Memref sig .tc .vmem S256x256 .f32) (harg9 : arg9.IsWhole) (arg10 : Memref sig .tc .vmem S8x1x192x360 .bf16) (harg10 : arg10.IsWhole) (arg11 : Memref sig .tc .vmem S8x1x192x360 .fp8e4m3) (harg11 : arg11.IsWhole) (arg12 : Memref sig .tc .vmem S1x8x360 .f32) (harg12 : arg12.IsWhole) (arg13 : Memref sig .tc .vmem S8x1x360x768 .fp8e4m3) (harg13 : arg13.IsWhole) (arg14 : Memref sig .tc .vmem S1x8x360 .f32) (harg14 : arg14.IsWhole) (arg15 : Memref sig .tc .vmem S192x384 .fp8e4m3) (harg15 : arg15.IsWhole) (arg16 : Memref sig .tc .vmem S192x384 .f32) (harg16 : arg16.IsWhole)

set_option warn.classDefReducibility false in
/-- The level loop's invariant: the inputs as they are, the outputs and the scratch at some contents. -/
@[sl_loop] def loopInv (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv k _ := iprop(∃ g10 g11 g12 g13 g14 g15 g16, Res (F := F) c arg1 arg2 arg3 arg4 arg5 arg6 arg7 arg8 arg9 arg10 arg11 arg12 arg13 arg14 arg15 arg16 f1 f2 f3 f4 f5 f6 f7 f8 f9 g10 g11 g12 g13 g14 g15 g16)
  step k _ := by
    iintro ⟨%g10, %g11, %g12, %g13, %g14, %g15, %g16, H⟩
    iapply (wp_wand_r Idealize.ShloMosaic.frame (wpE (defs₀ (F := F)) Variants.none (c : Thread nD τ) none) Set.univ)
    isplitl [H]
    · iapply (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 g10 g11 g12 g13 g14 g15 g16).2.2.2.2.2.2.2
      iexact H
    · iintro %_ H'
      iexists _; iexists _; iexists _; iexists _; iexists _; iexists _; iexists _

      iexact H'

set_option maxHeartbeats 4000000 in
/-- The kernel body at one grid point. -/
theorem sound_kernel (E : Set ℕ) (x1 : Vec F S8x1x192x360 .bf16) (x2 : Vec F S8x1x192x360 .fp8e4m3) (x3 : Vec F S1x8x360 .f32) (x4 : Vec F S192x192 .fp8e4m3) (x5 : Vec F S192x768 .fp8e4m3) (x6 : Vec F S192x768 .fp8e4m3) (x7 : Vec F S8x192x128 .f32) (x8 : Vec F S2x768 .f32) (x9 : Vec F S256x256 .f32) (K : PUnit → sProp 𝕄) (hE : E = Set.univ) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K PUnit.unit))
      ⊢ wp frame (wpE (defs₀ (F := F)) Variants.none c none) E (cc0_projection_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  subst hE
  simp only [Gen.cc0_projection_mlp_eq_skeleton]; unfold Gen.cc0_projection_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst hf1 hf2 hf3 hf4 hf5 hf6 hf7 hf8 hf9
  by_cases h : (Scalar.cmpi .ne (Scalar.extui (Scalar.cmpi .eq (BitVec.ofNat 32 (i 0).val) 0#32) : BitVec 32) 0#32) = 1#1
  all_goals
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    iexists _; iexists _; isplitr; swap; · iexact H16
    ipureintro; rfl

/-! ## The proof data and the run -/

variable (m : (ℓ : Loc nD τ sig) → Buf (Elt F) ℓ) (ρ : Dev nD → PrngReg)

/-- The proof data of the pipeline: the arrays as the region finds them, each input's buffer at its block after the body. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => Gen.iblk m c 8 t
    | ⟨9, _⟩ => fun _ => Classical.arbitrary _
    | ⟨10, _⟩ => fun _ => Classical.arbitrary _
    | ⟨11, _⟩ => fun _ => Classical.arbitrary _
    | ⟨12, _⟩ => fun _ => Classical.arbitrary _
    | ⟨13, _⟩ => fun _ => Classical.arbitrary _
    | ⟨_ + 14, h⟩ => absurd h (Nat.not_lt.2 (Nat.le_add_left _ _))
  Φ _ := Pipeline.ΦA spec0 c
  q _ := fullShare
  owed _ := 0

/-- The five outputs: what the body leaves there is not described. -/
def fgt : Fin cfg0.W → Bool := fun w => decide (9 ≤ w.val)

/-- Before the first grid step every window's array holds what the host code left in it. -/
theorem A_eq (c : Dev nD) (w : Fin cfg0.W) : (dats m 0 c).A w = Gen.V m c (Pipeline.arrRef spec0 w) := by
  dsimp only [dats]
/-- Operand 0: the body leaves the staged block as it is. -/
theorem after_0 (c : Dev nD) (t : Fin cfg0.N) : (dats m 0 c).after 0 t = Gen.iblk m c 0 t := by dsimp only [dats]
/-- Operand 0: the body finds its block of the array staged. -/
theorem before_0 (c : Dev nD) (t : Fin cfg0.N) (d) : (dats m 0 c).before 0 t d = Gen.iblk m c 0 t :=
  Gen.before0_0_of m (dats m 0 c) (A_eq m c 0) (after_0 m c) t d
/-- Operand 1: the body leaves the staged block as it is. -/
theorem after_1 (c : Dev nD) (t : Fin cfg0.N) : (dats m 0 c).after 1 t = Gen.iblk m c 1 t := by dsimp only [dats]
/-- Operand 1: the body finds its block of the array staged. -/
theorem before_1 (c : Dev nD) (t : Fin cfg0.N) (d) : (dats m 0 c).before 1 t d = Gen.iblk m c 1 t :=
  Gen.before0_1_of m (dats m 0 c) (A_eq m c 1) (after_1 m c) t d
/-- Operand 2: the body leaves the staged block as it is. -/
theorem after_2 (c : Dev nD) (t : Fin cfg0.N) : (dats m 0 c).after 2 t = Gen.iblk m c 2 t := by dsimp only [dats]
/-- Operand 2: the body finds its block of the array staged. -/
theorem before_2 (c : Dev nD) (t : Fin cfg0.N) (d) : (dats m 0 c).before 2 t d = Gen.iblk m c 2 t :=
  Gen.before0_2_of m (dats m 0 c) (A_eq m c 2) (after_2 m c) t d
/-- Operand 3: the body leaves the staged block as it is. -/
theorem after_3 (c : Dev nD) (t : Fin cfg0.N) : (dats m 0 c).after 3 t = Gen.iblk m c 3 t := by dsimp only [dats]
/-- Operand 3: the body finds its block of the array staged. -/
theorem before_3 (c : Dev nD) (t : Fin cfg0.N) (d) : (dats m 0 c).before 3 t d = Gen.iblk m c 3 t :=
  Gen.before0_3_of m (dats m 0 c) (A_eq m c 3) (after_3 m c) t d
/-- Operand 4: the body leaves the staged block as it is. -/
theorem after_4 (c : Dev nD) (t : Fin cfg0.N) : (dats m 0 c).after 4 t = Gen.iblk m c 4 t := by dsimp only [dats]
/-- Operand 4: the body finds its block of the array staged. -/
theorem before_4 (c : Dev nD) (t : Fin cfg0.N) (d) : (dats m 0 c).before 4 t d = Gen.iblk m c 4 t :=
  Gen.before0_4_of m (dats m 0 c) (A_eq m c 4) (after_4 m c) t d
/-- Operand 5: the body leaves the staged block as it is. -/
theorem after_5 (c : Dev nD) (t : Fin cfg0.N) : (dats m 0 c).after 5 t = Gen.iblk m c 5 t := by dsimp only [dats]
/-- Operand 5: the body finds its block of the array staged. -/
theorem before_5 (c : Dev nD) (t : Fin cfg0.N) (d) : (dats m 0 c).before 5 t d = Gen.iblk m c 5 t :=
  Gen.before0_5_of m (dats m 0 c) (A_eq m c 5) (after_5 m c) t d
/-- Operand 6: the body leaves the staged block as it is. -/
theorem after_6 (c : Dev nD) (t : Fin cfg0.N) : (dats m 0 c).after 6 t = Gen.iblk m c 6 t := by dsimp only [dats]
/-- Operand 6: the body finds its block of the array staged. -/
theorem before_6 (c : Dev nD) (t : Fin cfg0.N) (d) : (dats m 0 c).before 6 t d = Gen.iblk m c 6 t :=
  Gen.before0_6_of m (dats m 0 c) (A_eq m c 6) (after_6 m c) t d
/-- Operand 7: the body leaves the staged block as it is. -/
theorem after_7 (c : Dev nD) (t : Fin cfg0.N) : (dats m 0 c).after 7 t = Gen.iblk m c 7 t := by dsimp only [dats]
/-- Operand 7: the body finds its block of the array staged. -/
theorem before_7 (c : Dev nD) (t : Fin cfg0.N) (d) : (dats m 0 c).before 7 t d = Gen.iblk m c 7 t :=
  Gen.before0_7_of m (dats m 0 c) (A_eq m c 7) (after_7 m c) t d
/-- Operand 8: the body leaves the staged block as it is. -/
theorem after_8 (c : Dev nD) (t : Fin cfg0.N) : (dats m 0 c).after 8 t = Gen.iblk m c 8 t := by dsimp only [dats]
/-- Operand 8: the body finds its block of the array staged. -/
theorem before_8 (c : Dev nD) (t : Fin cfg0.N) (d) : (dats m 0 c).before 8 t d = Gen.iblk m c 8 t :=
  Gen.before0_8_of m (dats m 0 c) (A_eq m c 8) (after_8 m c) t d

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d))
    ∗ (∃ d, owns (c : Thread nD τ) (Gen.st0_4 t) fullShare ((dats m 0 c).before 4 t d))
    ∗ (∃ d, owns (c : Thread nD τ) (Gen.st0_5 t) fullShare ((dats m 0 c).before 5 t d))
    ∗ (∃ d, owns (c : Thread nD τ) (Gen.st0_6 t) fullShare ((dats m 0 c).before 6 t d))
    ∗ (∃ d, owns (c : Thread nD τ) (Gen.st0_7 t) fullShare ((dats m 0 c).before 7 t d))
    ∗ (∃ d, owns (c : Thread nD τ) (Gen.st0_8 t) fullShare ((dats m 0 c).before 8 t d))
    ∗ (∃ X, owns (c : Thread nD τ) (Gen.st0_9 t) fullShare X)
    ∗ (∃ X, owns (c : Thread nD τ) (Gen.st0_10 t) fullShare X)
    ∗ (∃ X, owns (c : Thread nD τ) (Gen.st0_11 t) fullShare X)
    ∗ (∃ X, owns (c : Thread nD τ) (Gen.st0_12 t) fullShare X)
    ∗ (∃ X, owns (c : Thread nD τ) (Gen.st0_13 t) fullShare X))

/-- What it returns. -/
def bodyPost (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t)
    ∗ owns (c : Thread nD τ) (Gen.st0_3 t) fullShare ((dats m 0 c).after 3 t)
    ∗ owns (c : Thread nD τ) (Gen.st0_4 t) fullShare ((dats m 0 c).after 4 t)
    ∗ owns (c : Thread nD τ) (Gen.st0_5 t) fullShare ((dats m 0 c).after 5 t)
    ∗ owns (c : Thread nD τ) (Gen.st0_6 t) fullShare ((dats m 0 c).after 6 t)
    ∗ owns (c : Thread nD τ) (Gen.st0_7 t) fullShare ((dats m 0 c).after 7 t)
    ∗ owns (c : Thread nD τ) (Gen.st0_8 t) fullShare ((dats m 0 c).after 8 t)
    ∗ (∃ X, owns (c : Thread nD τ) (Gen.st0_9 t) fullShare X)
    ∗ (∃ X, owns (c : Thread nD τ) (Gen.st0_10 t) fullShare X)
    ∗ (∃ X, owns (c : Thread nD τ) (Gen.st0_11 t) fullShare X)
    ∗ (∃ X, owns (c : Thread nD τ) (Gen.st0_12 t) fullShare X)
    ∗ (∃ X, owns (c : Thread nD τ) (Gen.st0_13 t) fullShare X))

/-- The kernel's body at a grid point takes the staged blocks to the blocks that the proof data name. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before_0, before_1, before_2, before_3, before_4, before_5, before_6, before_7, before_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8]
  unfold Pipeline.ΦA
  rw [Gen.scopedRest0_eq]
  iintro ⟨⟨⟨⟨%s0, S0⟩, ⟨%s1, S1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c (grid0.coords t) _ _ _ _ _ _ _ _ _ _ _ _ _ _ _ _ _ _ _ _ _ _ _ _ _ _ _ _ _ _ _ _ Set.univ (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) _ rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [S0]; · iexists s0; iapply (show _ ⊢ owns (c : Thread nD τ) (Memref.whole cc0_scratch0) fullShare s0 from .of_eq (owns_whole (c : Thread nD τ) cc0_scratch0 fullShare s0).symm); iexact S0
  isplitl [S1]; · iexists s1; iapply (show _ ⊢ owns (c : Thread nD τ) (Memref.whole cc0_scratch1) fullShare s1 from .of_eq (owns_whole (c : Thread nD τ) cc0_scratch1 fullShare s1).symm); iexact S1
  iintro ⟨H0, H1, H2, H3, H4, H5, H6, H7, H8, H9, H10, H11, H12, H13, ⟨%s0', S0⟩, ⟨%s1', S1⟩⟩
  isplitl [S0 S1 Hp]
  · isplitl [S0 S1]
    · isplitl [S0]
      · iexists s0'
        iapply (show owns (c : Thread nD τ) (Memref.whole cc0_scratch0) fullShare s0' ⊢ _ from .of_eq (owns_whole (c : Thread nD τ) cc0_scratch0 fullShare s0')); iexact S0
      · iexists s1'
        iapply (show owns (c : Thread nD τ) (Memref.whole cc0_scratch1) fullShare s1' ⊢ _ from .of_eq (owns_whole (c : Thread nD τ) cc0_scratch1 fullShare s1')); iexact S1
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body that a grid point runs is the kernel's, at that point's slots. -/
theorem defs₀_row (t : Fin cfg0.N) :
    defs₀ (F := F) .tc cfg0.body (cfg0.bodyArgs t (cfg0.slots t)) = Gen.bodyAt0 t := by
  unfold defs₀; rw [Defs.onTc_tc]

/-- The body meets the obligation of the grid loop at every point. -/
theorem body_obligation (c : Dev nD) : BodyObligation (dats (F := F) m 0 c) (defs₀ (F := F)) Variants.none () Set.univ fgt := fun t => by
  rw [Gen.bigSep_W0, Gen.bigSep_W0, defs₀_row]
  exact triple_restated (sound_body m c t) rfl .rfl fun _ => .rfl

set_option backward.isDefEq.respectTransparency.types false in
set_option maxHeartbeats 800000 in
/-- The launch: the run ends, the arrays that no window writes keep their values, and every semaphore counter is zero. -/
theorem run_main_quiescent : θ_run defs (onTc (τ := τ) (main (F := F))) (s₀ m ρ)
    (fun r => (Pipeline.RDat.FramePost cfg0 (fun c => (dats m 0 c).toRForget fgt) (Gen.V m)) r ∧ r.2.sem = fun _ => 0) :=
  Pipeline.θ_run_frame_forget (Q' := _) cfgs (dats m) (0 : Fin 1) Gen.launch0 defs₀ Variants.none fgt m ρ main
    (hbody := fun c => (body_obligation m c).loose) (hshare := fun c => (dats m 0 c).share_full fun _ => rfl)
    (howed := fun _ _ => rfl) (V := Gen.V m) (hmain := Gen.hmain m Variants.none) (hA := A_eq m) (hΦ := fun _ _ => rfl)

/-- The frame: the run ends, the argument arrays are unchanged and every semaphore counter is zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ hh => ⟨fun c => have h := hh.1; ⟨((h c).2 main_arg0 (Pipeline.mem_restRefs_of main_arg0 (by decide) (by decide))).trans (Gen.V_main_arg0 m c),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c),
      ((h c).2 main_arg3 (Pipeline.mem_restRefs_of main_arg3 (by decide) (by decide))).trans (Gen.V_main_arg3 m c),
      ((h c).2 main_arg4 (Pipeline.mem_restRefs_of main_arg4 (by decide) (by decide))).trans (Gen.V_main_arg4 m c),
      ((h c).2 main_arg5 (Pipeline.mem_restRefs_of main_arg5 (by decide) (by decide))).trans (Gen.V_main_arg5 m c),
      (h.arr_in c 4 rfl).trans ((A_eq m c 4).trans (Gen.V_main_arg6 m c)),
      ((h c).2 main_arg7 (Pipeline.mem_restRefs_of main_arg7 (by decide) (by decide))).trans (Gen.V_main_arg7 m c),
      ((h c).2 main_arg8 (Pipeline.mem_restRefs_of main_arg8 (by decide) (by decide))).trans (Gen.V_main_arg8 m c),
      ((h c).2 main_arg9 (Pipeline.mem_restRefs_of main_arg9 (by decide) (by decide))).trans (Gen.V_main_arg9 m c),
      ((h c).2 main_arg10 (Pipeline.mem_restRefs_of main_arg10 (by decide) (by decide))).trans (Gen.V_main_arg10 m c),
      ((h c).2 main_arg11 (Pipeline.mem_restRefs_of main_arg11 (by decide) (by decide))).trans (Gen.V_main_arg11 m c),
      ((h c).2 main_arg12 (Pipeline.mem_restRefs_of main_arg12 (by decide) (by decide))).trans (Gen.V_main_arg12 m c),
      ((h c).2 main_arg13 (Pipeline.mem_restRefs_of main_arg13 (by decide) (by decide))).trans (Gen.V_main_arg13 m c),
      ((h c).2 main_arg14 (Pipeline.mem_restRefs_of main_arg14 (by decide) (by decide))).trans (Gen.V_main_arg14 m c),
      ((h c).2 main_arg15 (Pipeline.mem_restRefs_of main_arg15 (by decide) (by decide))).trans (Gen.V_main_arg15 m c)⟩, hh.2⟩) (run_main_quiescent m ρ)

end Cert.Proof.Kernel

end
-- ==== Proof.KernelIdeal.Trip.lean ====
/- One trip of the level loop of the projection and MLP kernel. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- What one trip of the level loop reads and writes: the nine inputs, the five outputs and the two scratch arrays, each
    whole at the given contents. -/
abbrev Res (c : Dev nD) (arg1 : Memref sig .tc .vmem S8x1x192x360 .bf16) (arg2 : Memref sig .tc .vmem S8x1x192x360 .fp8e4m3) (arg3 : Memref sig .tc .vmem S1x8x360 .f32) (arg4 : Memref sig .tc .vmem S192x192 .fp8e4m3) (arg5 : Memref sig .tc .vmem S192x768 .fp8e4m3) (arg6 : Memref sig .tc .vmem S192x768 .fp8e4m3) (arg7 : Memref sig .tc .vmem S8x192x128 .f32) (arg8 : Memref sig .tc .vmem S2x768 .f32) (arg9 : Memref sig .tc .vmem S256x256 .f32) (arg10 : Memref sig .tc .vmem S8x1x192x360 .bf16) (arg11 : Memref sig .tc .vmem S8x1x192x360 .fp8e4m3) (arg12 : Memref sig .tc .vmem S1x8x360 .f32) (arg13 : Memref sig .tc .vmem S8x1x360x768 .fp8e4m3) (arg14 : Memref sig .tc .vmem S1x8x360 .f32) (arg15 : Memref sig .tc .vmem S192x384 .fp8e4m3) (arg16 : Memref sig .tc .vmem S192x384 .f32) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

variable (c : Dev nD) (i : grid0.Coords) (arg1 : Memref sig .tc .vmem S8x1x192x360 .bf16) (harg1 : arg1.IsWhole) (arg2 : Memref sig .tc .vmem S8x1x192x360 .fp8e4m3) (harg2 : arg2.IsWhole) (arg3 : Memref sig .tc .vmem S1x8x360 .f32) (harg3 : arg3.IsWhole) (arg4 : Memref sig .tc .vmem S192x192 .fp8e4m3) (harg4 : arg4.IsWhole) (arg5 : Memref sig .tc .vmem S192x768 .fp8e4m3) (harg5 : arg5.IsWhole) (arg6 : Memref sig .tc .vmem S192x768 .fp8e4m3) (harg6 : arg6.IsWhole) (arg7 : Memref sig .tc .vmem S8x192x128 .f32) (harg7 : arg7.IsWhole) (arg8 : Memref sig .tc .vmem S2x768 .f32) (harg8 : arg8.IsWhole) (arg9 : Memref sig .tc .vmem S256x256 .f32) (harg9 : arg9.IsWhole) (arg10 : Memref sig .tc .vmem S8x1x192x360 .bf16) (harg10 : arg10.IsWhole) (arg11 : Memref sig .tc .vmem S8x1x192x360 .fp8e4m3) (harg11 : arg11.IsWhole) (arg12 : Memref sig .tc .vmem S1x8x360 .f32) (harg12 : arg12.IsWhole) (arg13 : Memref sig .tc .vmem S8x1x360x768 .fp8e4m3) (harg13 : arg13.IsWhole) (arg14 : Memref sig .tc .vmem S1x8x360 .f32) (harg14 : arg14.IsWhole) (arg15 : Memref sig .tc .vmem S192x384 .fp8e4m3) (harg15 : arg15.IsWhole) (arg16 : Memref sig .tc .vmem S192x384 .f32) (harg16 : arg16.IsWhole)

set_option maxHeartbeats 4000000 in
set_option sl_exec.resultNames true in
/-- One trip of the level loop, run once at a symbolic level: the inputs stay as they are, and the seven written arrays end
    at contents which the run finds (the first components), as functions of what the trip reads. -/
@[irreducible] def trip (k : Fin k0_t1_loop.trips) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    Σ' (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))), { g16 : Buf (Elt F) (arg16.view.loc (c : Thread nD τ)) //
      (Res c arg1 arg2 arg3 arg4 arg5 arg6 arg7 arg8 arg9 arg10 arg11 arg12 arg13 arg14 arg15 arg16 f1 f2 f3 f4 f5 f6 f7 f8 f9 f10 f11 f12 f13 f14 f15 f16 : sProp 𝕄)
        ⊢ wp frame (wpE (defs₀ (F := F)) Variants.none (c : Thread nD τ) none) Set.univ (Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k ())
          (fun _ => Res c arg1 arg2 arg3 arg4 arg5 arg6 arg7 arg8 arg9 arg10 arg11 arg12 arg13 arg14 arg15 arg16 f1 f2 f3 f4 f5 f6 f7 f8 f9 g10 g11 g12 g13 g14 g15 g16) } := by
  refine ⟨?g10, ?g11, ?g12, ?g13, ?g14, ?g15, ?g16, ?run⟩
  case run =>
    unfold Gen.k0_t1_body
    iintro ⟨H1, H2, H3, H4, H5, H6, H7, H8, H9, H10, H11, H12, H13, H14, H15, H16⟩
    sl_exec_parts
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Proof.KernelIdeal

end
-- ==== Proof.Tok.lean ====
/- One token of the projection and MLP call, as scalar mathematics over the extended reals. -/
module

public import Idealize.ShloMosaic.Lib.Pointwise
public import Idealize.ShloMosaic.Lib.IdealHost

@[expose] public section

noncomputable section

namespace Cert.Proof.Tok

open Idealize.ShloMosaic

/-- The mean of a column of 192 features. -/
def mean (v : Fin 192 → EReal) : EReal := Ideal.div (∑ d, v d) (Ideal.ofBits .f32 0x43400000#32)

/-- Its variance plus the layer norm's small constant. -/
def vare (v : Fin 192 → EReal) : EReal :=
  mean (fun d => (v d - mean v) * (v d - mean v)) + Ideal.ofBits .f32 0x3727C5AC#32

/-- The layer norm as the kernel writes it: a multiply by the reciprocal of the standard deviation. -/
def nrm (v g b : Fin 192 → EReal) (d : Fin 192) : EReal :=
  (v d - mean v) * Ideal.div 1 (Ideal.sqrt (vare v)) * g d + b d

/-- The largest magnitude among `n` values. -/
def amax {n : ℕ} (v : Fin n → EReal) : EReal :=
  Finset.univ.fold max (Ideal.ofBits .f32 0xFF800000#32) (fun d => max (v d) (-(v d)))

/-- The quantiser's scale of `n` values. -/
def scl {n : ℕ} (v : Fin n → EReal) : EReal :=
  if amax v = 0 then 1 else Ideal.div (amax v) (Ideal.ofBits .f32 0x43E00000#32)

/-- The quantiser's clamp. -/
def clip (x : EReal) : EReal := min (Ideal.ofBits .f32 0x43E00000#32) (max (Ideal.ofBits .f32 0xC3E00000#32) x)

/-- The quantiser's codes as the kernel writes them: a multiply by the reciprocal of the scale. -/
def cod {n : ℕ} (v : Fin n → EReal) (d : Fin n) : EReal := clip (v d * Ideal.div 1 (scl v))

end Cert.Proof.Tok

end
-- ==== Proof.KernelIdeal.S1.lean ====
/- The first half of a trip: projection, layer norm, residual, and the quantiser. -/
module

public import proofs.«01_k».proof.Proof.KernelIdeal.Trip
public import proofs.«01_k».proof.Proof.Tok
public import Idealize.ShloMosaic.Lib.Pointwise

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Tok
open Idealize.ShloMosaic.Pipeline (Dat Cfg Window BodyObligation BodyObligationLoose cellOf)

/-! ## A token's values, from the arrays the kernel reads: level k, longitude n, and the lane p at which the columns are read -/

/-- The projection with its scales and bias. -/
def A (x2 : Vec Ideal S8x1x192x360 .fp8e4m3) (x3 : Vec Ideal S1x8x360 .f32) (x4 : Vec Ideal S192x192 .fp8e4m3) (x7 : Vec Ideal S8x192x128 .f32) (k : Fin 8) (n : Fin 360) (p : Fin 128) (d : Fin 192) : EReal :=
  (∑ e : Fin 192, x4 (ix2 d e) * x2 (ix4 k 0 e n)) * x3 (ix3 0 k n) * x7 (ix3 0 d p) + x7 (ix3 1 d p)

/-- The first residual: the MLP's input. -/
def X (x1 : Vec Ideal S8x1x192x360 .bf16) (x2 : Vec Ideal S8x1x192x360 .fp8e4m3) (x3 : Vec Ideal S1x8x360 .f32) (x4 : Vec Ideal S192x192 .fp8e4m3) (x7 : Vec Ideal S8x192x128 .f32) (k : Fin 8) (n : Fin 360) (p : Fin 128) (d : Fin 192) : EReal :=
  x1 (ix4 k 0 d n) + nrm (A x2 x3 x4 x7 k n p) (fun d => x7 (ix3 2 d p)) (fun d => x7 (ix3 3 d p)) d

variable (c : Dev nD) (arg1 : Memref sig .tc .vmem S8x1x192x360 .bf16) (arg2 : Memref sig .tc .vmem S8x1x192x360 .fp8e4m3) (arg3 : Memref sig .tc .vmem S1x8x360 .f32) (arg4 : Memref sig .tc .vmem S192x192 .fp8e4m3) (arg5 : Memref sig .tc .vmem S192x768 .fp8e4m3) (arg6 : Memref sig .tc .vmem S192x768 .fp8e4m3) (arg7 : Memref sig .tc .vmem S8x192x128 .f32) (arg8 : Memref sig .tc .vmem S2x768 .f32) (arg9 : Memref sig .tc .vmem S256x256 .f32) (arg10 : Memref sig .tc .vmem S8x1x192x360 .bf16) (arg11 : Memref sig .tc .vmem S8x1x192x360 .fp8e4m3) (arg12 : Memref sig .tc .vmem S1x8x360 .f32) (arg13 : Memref sig .tc .vmem S8x1x360x768 .fp8e4m3) (arg14 : Memref sig .tc .vmem S1x8x360 .f32) (arg15 : Memref sig .tc .vmem S192x384 .fp8e4m3) (arg16 : Memref sig .tc .vmem S192x384 .f32) (k : Fin k0_t1_loop.trips) (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ)))

/-- The level counter's word. -/
theorem lvl (k : Fin k0_t1_loop.trips) : trip.sl.v5 k = BitVec.ofNat 32 k.val := by
  revert k; decide +kernel

/-- The level of a trip. -/
def ml (k : Fin k0_t1_loop.trips) : Fin 8 := ⟨k.val, k.isLt⟩

/-- One row taken out of eight by a mask and a sum. -/
theorem sel (f : Fin 8 → EReal) :
    ∑ x : Fin 8, Scalar.select (IntOp.cmpi CmpIPredicate.eq (BitVec.ofNat 32 x.val) (trip.sl.v5 k)) (f x) 0 = f (ml k) := by
  have h : ∀ (k : Fin k0_t1_loop.trips) (x : Fin 8), IntOp.cmpi CmpIPredicate.eq (BitVec.ofNat 32 x.val) (BitVec.ofNat 32 k.val) = if x = ml k then 1#1 else 0#1 := by
    decide +kernel
  rw [lvl]; simp only [h]
  rw [Finset.sum_eq_single (ml k)]
  · simp [Scalar.select]
  · intro b _ hb; simp [Scalar.select, hb]
  · simp

/-- Where the level's attention codes start: axis 0. -/
theorem off1_0 (k : Fin k0_t1_loop.trips) : k0_off1 k 0 = k.val := by revert k; decide +kernel
/-- Where the level's attention codes start: axis 1. -/
theorem off1_1 (k : Fin k0_t1_loop.trips) : k0_off1 k 1 = 0 := by revert k; decide +kernel
/-- Where the level's attention codes start: axis 2. -/
theorem off1_2 (k : Fin k0_t1_loop.trips) : k0_off1 k 2 = 0 := by revert k; decide +kernel
/-- Where the level's attention codes start: axis 3. -/
theorem off1_3 (k : Fin k0_t1_loop.trips) : k0_off1 k 3 = 0 := by revert k; decide +kernel
/-- Where the level's first block of longitudes starts, features first: axis 0. -/
theorem off2_0 (k : Fin k0_t1_loop.trips) : k0_off2 k 0 = k.val := by revert k; decide +kernel
/-- Where the level's first block of longitudes starts, features first: axis 1. -/
theorem off2_1 (k : Fin k0_t1_loop.trips) : k0_off2 k 1 = 0 := by revert k; decide +kernel
/-- Where the level's first block of longitudes starts, features first: axis 2. -/
theorem off2_2 (k : Fin k0_t1_loop.trips) : k0_off2 k 2 = 0 := by revert k; decide +kernel
/-- Where the level's first block of longitudes starts, features first: axis 3. -/
theorem off2_3 (k : Fin k0_t1_loop.trips) : k0_off2 k 3 = 0 := by revert k; decide +kernel
/-- Where the level's second block of longitudes starts, features first: axis 0. -/
theorem off3_0 (k : Fin k0_t1_loop.trips) : k0_off3 k 0 = k.val := by revert k; decide +kernel
/-- Where the level's second block of longitudes starts, features first: axis 1. -/
theorem off3_1 (k : Fin k0_t1_loop.trips) : k0_off3 k 1 = 0 := by revert k; decide +kernel
/-- Where the level's second block of longitudes starts, features first: axis 2. -/
theorem off3_2 (k : Fin k0_t1_loop.trips) : k0_off3 k 2 = 0 := by revert k; decide +kernel
/-- Where the level's second block of longitudes starts, features first: axis 3. -/
theorem off3_3 (k : Fin k0_t1_loop.trips) : k0_off3 k 3 = 128 := by revert k; decide +kernel
/-- Where the level's third block of longitudes starts, features first: axis 0. -/
theorem off4_0 (k : Fin k0_t1_loop.trips) : k0_off4 k 0 = k.val := by revert k; decide +kernel
/-- Where the level's third block of longitudes starts, features first: axis 1. -/
theorem off4_1 (k : Fin k0_t1_loop.trips) : k0_off4 k 1 = 0 := by revert k; decide +kernel
/-- Where the level's third block of longitudes starts, features first: axis 2. -/
theorem off4_2 (k : Fin k0_t1_loop.trips) : k0_off4 k 2 = 0 := by revert k; decide +kernel
/-- Where the level's third block of longitudes starts, features first: axis 3. -/
theorem off4_3 (k : Fin k0_t1_loop.trips) : k0_off4 k 3 = 256 := by revert k; decide +kernel
/-- Where the level's first block of longitudes starts, hidden features last: axis 0. -/
theorem off5_0 (k : Fin k0_t1_loop.trips) : k0_off5 k 0 = k.val := by revert k; decide +kernel
/-- Where the level's first block of longitudes starts, hidden features last: axis 1. -/
theorem off5_1 (k : Fin k0_t1_loop.trips) : k0_off5 k 1 = 0 := by revert k; decide +kernel
/-- Where the level's first block of longitudes starts, hidden features last: axis 2. -/
theorem off5_2 (k : Fin k0_t1_loop.trips) : k0_off5 k 2 = 0 := by revert k; decide +kernel
/-- Where the level's first block of longitudes starts, hidden features last: axis 3. -/
theorem off5_3 (k : Fin k0_t1_loop.trips) : k0_off5 k 3 = 0 := by revert k; decide +kernel
/-- Where the level's second block of longitudes starts, hidden features last: axis 0. -/
theorem off6_0 (k : Fin k0_t1_loop.trips) : k0_off6 k 0 = k.val := by revert k; decide +kernel
/-- Where the level's second block of longitudes starts, hidden features last: axis 1. -/
theorem off6_1 (k : Fin k0_t1_loop.trips) : k0_off6 k 1 = 0 := by revert k; decide +kernel
/-- Where the level's second block of longitudes starts, hidden features last: axis 2. -/
theorem off6_2 (k : Fin k0_t1_loop.trips) : k0_off6 k 2 = 128 := by revert k; decide +kernel
/-- Where the level's second block of longitudes starts, hidden features last: axis 3. -/
theorem off6_3 (k : Fin k0_t1_loop.trips) : k0_off6 k 3 = 0 := by revert k; decide +kernel
/-- Where the level's third block of longitudes starts, hidden features last: axis 0. -/
theorem off7_0 (k : Fin k0_t1_loop.trips) : k0_off7 k 0 = k.val := by revert k; decide +kernel
/-- Where the level's third block of longitudes starts, hidden features last: axis 1. -/
theorem off7_1 (k : Fin k0_t1_loop.trips) : k0_off7 k 1 = 0 := by revert k; decide +kernel
/-- Where the level's third block of longitudes starts, hidden features last: axis 2. -/
theorem off7_2 (k : Fin k0_t1_loop.trips) : k0_off7 k 2 = 256 := by revert k; decide +kernel
/-- Where the level's third block of longitudes starts, hidden features last: axis 3. -/
theorem off7_3 (k : Fin k0_t1_loop.trips) : k0_off7 k 3 = 0 := by revert k; decide +kernel

set_option maxHeartbeats 1000000 in
/-- The projection of the trip's level, in the first block of longitudes. -/
theorem a0 (d : Fin 192) (n : Fin 128) : (trip.sl.v29 c arg2 arg3 arg4 arg7 k f2 f3 f4 f7) (ix2 d n) = A (arg2.view.read (Elt Ideal) f2) (arg3.view.read (Elt Ideal) f3) (arg4.view.read (Elt Ideal) f4) (arg7.view.read (Elt Ideal) f7) (ml k) ⟨0 + n.val, by omega⟩ n d := by
  pointwise [trip.sl.v29, trip.sl.v28, trip.sl.v26, trip.sl.v25, trip.sl.v23, trip.sl.v22, trip.sl.v21, trip.sl.v20, trip.sl.v19, trip.sl.v18, trip.sl.v17, trip.sl.v16, trip.sl.v15, trip.sl.v14, trip.sl.v13, trip.sl.v11, trip.sl.v10, trip.sl.v7, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

set_option maxHeartbeats 1000000 in
/-- The first residual of the trip's level, in the first block of longitudes. -/
theorem x0 (d : Fin 192) (n : Fin 128) : (trip.sl.v58 c arg1 arg2 arg3 arg4 arg7 k f1 f2 f3 f4 f7) (ix2 d n) = X (arg1.view.read (Elt Ideal) f1) (arg2.view.read (Elt Ideal) f2) (arg3.view.read (Elt Ideal) f3) (arg4.view.read (Elt Ideal) f4) (arg7.view.read (Elt Ideal) f7) (ml k) ⟨0 + n.val, by omega⟩ n d := by
  pointwise [trip.sl.v58, trip.sl.v57, trip.sl.v56, trip.sl.v53, trip.sl.v52, trip.sl.v50, trip.sl.v49, trip.sl.v47, trip.sl.v46, trip.sl.v45, trip.sl.v43, trip.sl.v42, trip.sl.v40, trip.sl.v38, trip.sl.v37, trip.sl.v36, trip.sl.v35, trip.sl.v34, trip.sl.v33, trip.sl.v31, trip.sl.v30, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [a0]
  simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

set_option maxHeartbeats 1000000 in
/-- The scales of the MLP's input, in the first block of longitudes. -/
theorem s0 (n : Fin 128) : (trip.sl.v70 c arg1 arg2 arg3 arg4 arg7 k f1 f2 f3 f4 f7) (ix2 0 n) = scl (X (arg1.view.read (Elt Ideal) f1) (arg2.view.read (Elt Ideal) f2) (arg3.view.read (Elt Ideal) f3) (arg4.view.read (Elt Ideal) f4) (arg7.view.read (Elt Ideal) f7) (ml k) ⟨0 + n.val, by omega⟩ n) := by
  pointwise [trip.sl.v70, trip.sl.v68, trip.sl.v66, trip.sl.v64, trip.sl.v63, trip.sl.v62, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [x0]
  try simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

set_option maxHeartbeats 1000000 in
/-- The codes of the MLP's input, in the first block of longitudes. -/
theorem c0 (d : Fin 192) (n : Fin 128) : (trip.sl.v79 c arg1 arg2 arg3 arg4 arg7 k f1 f2 f3 f4 f7) (ix2 d n) = cod (X (arg1.view.read (Elt Ideal) f1) (arg2.view.read (Elt Ideal) f2) (arg3.view.read (Elt Ideal) f3) (arg4.view.read (Elt Ideal) f4) (arg7.view.read (Elt Ideal) f7) (ml k) ⟨0 + n.val, by omega⟩ n) d := by
  pointwise [trip.sl.v79, trip.sl.v78, trip.sl.v76, trip.sl.v74, trip.sl.v73, trip.sl.v72, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [x0, s0]
  try simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

set_option maxHeartbeats 1000000 in
/-- The projection of the trip's level, in the second block of longitudes. -/
theorem a1 (d : Fin 192) (n : Fin 128) : (trip.sl.v113 c arg2 arg3 arg4 arg7 k f2 f3 f4 f7) (ix2 d n) = A (arg2.view.read (Elt Ideal) f2) (arg3.view.read (Elt Ideal) f3) (arg4.view.read (Elt Ideal) f4) (arg7.view.read (Elt Ideal) f7) (ml k) ⟨128 + n.val, by omega⟩ n d := by
  pointwise [trip.sl.v113, trip.sl.v110, trip.sl.v107, trip.sl.v106, trip.sl.v105, trip.sl.v104, trip.sl.v103, trip.sl.v102, trip.sl.v97, trip.sl.v17, trip.sl.v16, trip.sl.v15, trip.sl.v14, trip.sl.v28, trip.sl.v25, trip.sl.v11, trip.sl.v10, trip.sl.v7, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

set_option maxHeartbeats 1000000 in
/-- The first residual of the trip's level, in the second block of longitudes. -/
theorem x1 (d : Fin 192) (n : Fin 128) : (trip.sl.v142 c arg1 arg2 arg3 arg4 arg7 k f1 f2 f3 f4 f7) (ix2 d n) = X (arg1.view.read (Elt Ideal) f1) (arg2.view.read (Elt Ideal) f2) (arg3.view.read (Elt Ideal) f3) (arg4.view.read (Elt Ideal) f4) (arg7.view.read (Elt Ideal) f7) (ml k) ⟨128 + n.val, by omega⟩ n d := by
  pointwise [trip.sl.v142, trip.sl.v141, trip.sl.v140, trip.sl.v137, trip.sl.v134, trip.sl.v131, trip.sl.v130, trip.sl.v129, trip.sl.v127, trip.sl.v126, trip.sl.v124, trip.sl.v122, trip.sl.v121, trip.sl.v120, trip.sl.v119, trip.sl.v118, trip.sl.v117, trip.sl.v115, trip.sl.v114, trip.sl.v49, trip.sl.v52, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [a1]
  simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

set_option maxHeartbeats 1000000 in
/-- The scales of the MLP's input, in the second block of longitudes. -/
theorem s1 (n : Fin 128) : (trip.sl.v154 c arg1 arg2 arg3 arg4 arg7 k f1 f2 f3 f4 f7) (ix2 0 n) = scl (X (arg1.view.read (Elt Ideal) f1) (arg2.view.read (Elt Ideal) f2) (arg3.view.read (Elt Ideal) f3) (arg4.view.read (Elt Ideal) f4) (arg7.view.read (Elt Ideal) f7) (ml k) ⟨128 + n.val, by omega⟩ n) := by
  pointwise [trip.sl.v154, trip.sl.v152, trip.sl.v150, trip.sl.v148, trip.sl.v147, trip.sl.v146, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [x1]
  try simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

set_option maxHeartbeats 1000000 in
/-- The codes of the MLP's input, in the second block of longitudes. -/
theorem c1 (d : Fin 192) (n : Fin 128) : (trip.sl.v163 c arg1 arg2 arg3 arg4 arg7 k f1 f2 f3 f4 f7) (ix2 d n) = cod (X (arg1.view.read (Elt Ideal) f1) (arg2.view.read (Elt Ideal) f2) (arg3.view.read (Elt Ideal) f3) (arg4.view.read (Elt Ideal) f4) (arg7.view.read (Elt Ideal) f7) (ml k) ⟨128 + n.val, by omega⟩ n) d := by
  pointwise [trip.sl.v163, trip.sl.v162, trip.sl.v160, trip.sl.v158, trip.sl.v157, trip.sl.v156, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [x1, s1]
  try simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

set_option maxHeartbeats 1000000 in
/-- The projection of the trip's level, in the third block of longitudes. -/
theorem a2 (d : Fin 192) (n : Fin 104) : (trip.sl.v199 c arg2 arg3 arg4 arg7 k f2 f3 f4 f7) (ix2 d n) = A (arg2.view.read (Elt Ideal) f2) (arg3.view.read (Elt Ideal) f3) (arg4.view.read (Elt Ideal) f4) (arg7.view.read (Elt Ideal) f7) (ml k) ⟨256 + n.val, by omega⟩ ⟨n.val, by omega⟩ d := by
  pointwise [trip.sl.v199, trip.sl.v198, trip.sl.v195, trip.sl.v194, trip.sl.v193, trip.sl.v192, trip.sl.v191, trip.sl.v190, trip.sl.v189, trip.sl.v188, trip.sl.v187, trip.sl.v186, trip.sl.v185, trip.sl.v184, trip.sl.v183, trip.sl.v182, trip.sl.v181, trip.sl.v28, trip.sl.v11, trip.sl.v10, trip.sl.v7, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

set_option maxHeartbeats 1000000 in
/-- The first residual of the trip's level, in the third block of longitudes. -/
theorem x2 (d : Fin 192) (n : Fin 104) : (trip.sl.v230 c arg1 arg2 arg3 arg4 arg7 k f1 f2 f3 f4 f7) (ix2 d n) = X (arg1.view.read (Elt Ideal) f1) (arg2.view.read (Elt Ideal) f2) (arg3.view.read (Elt Ideal) f3) (arg4.view.read (Elt Ideal) f4) (arg7.view.read (Elt Ideal) f7) (ml k) ⟨256 + n.val, by omega⟩ ⟨n.val, by omega⟩ d := by
  pointwise [trip.sl.v230, trip.sl.v229, trip.sl.v228, trip.sl.v225, trip.sl.v224, trip.sl.v221, trip.sl.v220, trip.sl.v217, trip.sl.v216, trip.sl.v215, trip.sl.v213, trip.sl.v212, trip.sl.v210, trip.sl.v208, trip.sl.v207, trip.sl.v206, trip.sl.v205, trip.sl.v204, trip.sl.v203, trip.sl.v201, trip.sl.v200, trip.sl.v202, trip.sl.v211, trip.sl.v214, trip.sl.v49, trip.sl.v52, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [a2]
  simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

set_option maxHeartbeats 1000000 in
/-- The scales of the MLP's input, in the third block of longitudes. -/
theorem s2 (n : Fin 104) : (trip.sl.v242 c arg1 arg2 arg3 arg4 arg7 k f1 f2 f3 f4 f7) (ix2 0 n) = scl (X (arg1.view.read (Elt Ideal) f1) (arg2.view.read (Elt Ideal) f2) (arg3.view.read (Elt Ideal) f3) (arg4.view.read (Elt Ideal) f4) (arg7.view.read (Elt Ideal) f7) (ml k) ⟨256 + n.val, by omega⟩ ⟨n.val, by omega⟩) := by
  pointwise [trip.sl.v242, trip.sl.v240, trip.sl.v239, trip.sl.v238, trip.sl.v237, trip.sl.v236, trip.sl.v235, trip.sl.v234, trip.sl.v214, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [x2]
  try simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

set_option maxHeartbeats 1000000 in
/-- The codes of the MLP's input, in the third block of longitudes. -/
theorem c2 (d : Fin 192) (n : Fin 104) : (trip.sl.v251 c arg1 arg2 arg3 arg4 arg7 k f1 f2 f3 f4 f7) (ix2 d n) = cod (X (arg1.view.read (Elt Ideal) f1) (arg2.view.read (Elt Ideal) f2) (arg3.view.read (Elt Ideal) f3) (arg4.view.read (Elt Ideal) f4) (arg7.view.read (Elt Ideal) f7) (ml k) ⟨256 + n.val, by omega⟩ ⟨n.val, by omega⟩) d := by
  pointwise [trip.sl.v251, trip.sl.v250, trip.sl.v249, trip.sl.v248, trip.sl.v247, trip.sl.v246, trip.sl.v245, trip.sl.v244, trip.sl.v214, trip.sl.cst, trip.sl.cst_12, trip.sl.cst_20, trip.sl.cst_23, trip.sl.cst_24, trip.sl.cst_36, trip.sl.cst_39, trip.sl.v32, trip.sl.v41, trip.sl.v44, trip.sl.v65, trip.sl.v67, trip.sl.v75, trip.sl.v77, View.readAt_eq_ld]
  simp only [x2, s2]
  try simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, sel, Nat.zero_add, Nat.add_zero, Fin.eta]
  rfl

end Cert.Proof.KernelIdeal

end
-- ==== Proof.KernelIdeal.S2Spec.lean ====
/- The second half of a trip as mathematics: the hidden layer, its quantiser, the second product. -/
module

public import proofs.«01_k».proof.Proof.KernelIdeal.S1
public import Idealize.ShloMosaic.Lib.Pipeline.ReadBack

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Tok
open Idealize.ShloMosaic.Pipeline (Dat Cfg Window BodyObligation BodyObligationLoose cellOf)

/-! ## The second half of a token's values -/

/-- The square root of one half. -/
def rt : EReal := (Named.named κ "sqrt_half" 0x3F3504F3#32 : Ideal .f32)

/-- The error function of the extended reals. -/
def erfE (x : EReal) : EReal := (FloatOps.erf (x : Ideal .f32) : Ideal .f32)

/-- The hidden layer's input over the square root of two. -/
def U (x1 : Vec Ideal S8x1x192x360 .bf16) (x2 : Vec Ideal S8x1x192x360 .fp8e4m3) (x3 : Vec Ideal S1x8x360 .f32) (x4 : Vec Ideal S192x192 .fp8e4m3) (x5 : Vec Ideal S192x768 .fp8e4m3) (x7 : Vec Ideal S8x192x128 .f32) (x8 : Vec Ideal S2x768 .f32) (k : Fin 8) (n : Fin 360) (p : Fin 128) (j : Fin 768) : EReal :=
  (∑ d : Fin 192, cod (X x1 x2 x3 x4 x7 k n p) d * x5 (ix2 d j)) * scl (X x1 x2 x3 x4 x7 k n p) * (x8 (ix2 0 j) * rt) + x8 (ix2 1 j) * rt

/-- The hidden value as the kernel holds it: the gelu times the square root of two. -/
def G (x1 : Vec Ideal S8x1x192x360 .bf16) (x2 : Vec Ideal S8x1x192x360 .fp8e4m3) (x3 : Vec Ideal S1x8x360 .f32) (x4 : Vec Ideal S192x192 .fp8e4m3) (x5 : Vec Ideal S192x768 .fp8e4m3) (x7 : Vec Ideal S8x192x128 .f32) (x8 : Vec Ideal S2x768 .f32) (k : Fin 8) (n : Fin 360) (p : Fin 128) (j : Fin 768) : EReal :=
  U x1 x2 x3 x4 x5 x7 x8 k n p j * (1 + erfE (U x1 x2 x3 x4 x5 x7 x8 k n p j))

/-- The scale of the hidden codes. -/
def HS (x1 : Vec Ideal S8x1x192x360 .bf16) (x2 : Vec Ideal S8x1x192x360 .fp8e4m3) (x3 : Vec Ideal S1x8x360 .f32) (x4 : Vec Ideal S192x192 .fp8e4m3) (x5 : Vec Ideal S192x768 .fp8e4m3) (x7 : Vec Ideal S8x192x128 .f32) (x8 : Vec Ideal S2x768 .f32) (k : Fin 8) (n : Fin 360) (p : Fin 128) : EReal :=
  if amax (G x1 x2 x3 x4 x5 x7 x8 k n p) = 0 then 1 else scl (G x1 x2 x3 x4 x5 x7 x8 k n p) * rt

/-- The second matrix product with its scales and bias. -/
def Fv (x1 : Vec Ideal S8x1x192x360 .bf16) (x2 : Vec Ideal S8x1x192x360 .fp8e4m3) (x3 : Vec Ideal S1x8x360 .f32) (x4 : Vec Ideal S192x192 .fp8e4m3) (x5 : Vec Ideal S192x768 .fp8e4m3) (x6 : Vec Ideal S192x768 .fp8e4m3) (x7 : Vec Ideal S8x192x128 .f32) (x8 : Vec Ideal S2x768 .f32) (k : Fin 8) (n : Fin 360) (p : Fin 128) (d : Fin 192) : EReal :=
  (∑ j : Fin 768, x6 (ix2 d j) * cod (G x1 x2 x3 x4 x5 x7 x8 k n p) j) * HS x1 x2 x3 x4 x5 x7 x8 k n p * x7 (ix3 4 d p) + x7 (ix3 5 d p)

/-- The MLP's output. -/
def Y (x1 : Vec Ideal S8x1x192x360 .bf16) (x2 : Vec Ideal S8x1x192x360 .fp8e4m3) (x3 : Vec Ideal S1x8x360 .f32) (x4 : Vec Ideal S192x192 .fp8e4m3) (x5 : Vec Ideal S192x768 .fp8e4m3) (x6 : Vec Ideal S192x768 .fp8e4m3) (x7 : Vec Ideal S8x192x128 .f32) (x8 : Vec Ideal S2x768 .f32) (k : Fin 8) (n : Fin 360) (p : Fin 128) (d : Fin 192) : EReal :=
  X x1 x2 x3 x4 x7 k n p d + nrm (Fv x1 x2 x3 x4 x5 x6 x7 x8 k n p) (fun d => x7 (ix3 6 d p)) (fun d => x7 (ix3 7 d p)) d

/-- The array the kernel turns matrices with is the identity. -/
def Eye (x : Vec Ideal S256x256 .f32) : Prop := ∀ a b : Fin 256, x (ix2 a b) = if a = b then 1 else 0

/-- A sum against a row of the identity. -/
theorem eye_sum {x : Vec Ideal S256x256 .f32} (hE : Eye x) (n : Fin 128) (g : Fin 128 → EReal) :
    ∑ t : Fin 128, x (ix2 ⟨n.val, by omega⟩ ⟨t.val, by omega⟩) * g t = g n := by
  simp only [hE _ _, Fin.mk.injEq, Fin.val_inj]
  simp

end Cert.Proof.KernelIdeal

end
-- ==== Proof.KernelIdeal.Strip.lean ====
/- One block of 128 tokens of the hidden layer, stated once: its four strips of 32 tokens, what each holds at an index, and
   the codes and scales of the whole block. The three blocks of a trip are instances of it. -/
module

public import proofs.«01_k».proof.Proof.KernelIdeal.S2Spec

@[expose] public section

set_option maxRecDepth 16384

noncomputable section

namespace Cert.Proof.KernelIdeal

open Cert.KernelIdeal Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Tok
open Idealize.ShloMosaic.Pipeline (Dat Cfg Window BodyObligation BodyObligationLoose cellOf)

/-! ## A strip of 32 tokens, from row `o` of the block on -/

/-- The gelu of a strip, from the block's products `acc`, the tokens' scales `spr` and the two rows of scales and biases. -/
def stG (o : ℕ) (h1 : S128x128.Slices ![o, 0] S32x128) (h2 : S128x768.Slices ![o, 0] S32x768) (acc : FVec Ideal S128x768 .f32)
    (spr : FVec Ideal S128x128 .f32) (r0 r1 : Vec Ideal S1x768 .f32) : FVec Ideal S32x768 .f32 :=
  have s : FVec Ideal S32x128 .f32 := extractStridedSlice S32x128 ![o, 0] spr h1
  have w : FVec Ideal S32x768 .f32 := concatenate S32x768 1 [⟨S32x128, s⟩, ⟨S32x128, s⟩, ⟨S32x128, s⟩, ⟨S32x128, s⟩, ⟨S32x128, s⟩, ⟨S32x128, s⟩] concatenates_S32x128_S32x128_S32x128_S32x128_S32x128_S32x128_S32x768_d1
  have a : FVec Ideal S32x768 .f32 := extractStridedSlice S32x768 ![o, 0] acc h2
  have k : FVec Ideal S1x768 .f32 := broadcast S1x768 (Named.named κ "sqrt_half" 0x3F3504F3#32 : Ideal .f32)
  have b0 : FVec Ideal S32x768 .f32 := broadcastTo S32x768 (mulf (shapeCast S1x768 r0 shapeCasts_S1x768_S1x768) k) broadcasts_S1x768_S32x768
  have b1 : FVec Ideal S32x768 .f32 := broadcastTo S32x768 (mulf (shapeCast S1x768 r1 shapeCasts_S1x768_S1x768) k) broadcasts_S1x768_S32x768
  have u : FVec Ideal S32x768 .f32 := addf (mulf (mulf a w) b0) b1
  have one : FVec Ideal S32x768 .f32 := broadcast S32x768 (Scalar.ofBits .f32 0x3F800000#32 : Ideal .f32)
  mulf u (addf one (erf u))

/-- The largest magnitude of each token of a strip. -/
def stM (g : FVec Ideal S32x768 .f32) : FVec Ideal S32x1 .f32 :=
  shapeCast S32x1 (multiReduction .maximumf [1] S32 (absf g) 0xFF800000#32 reduces_S32x768_S32 (.inl rfl) rfl) shapeCasts_S32_S32x1

/-- The quantiser's scale of each token of a strip. -/
def stL (g : FVec Ideal S32x768 .f32) : FVec Ideal S32x1 .f32 :=
  select (cmpf .oeq (stM g) (broadcast S32x1 (Scalar.ofBits .f32 0x00000000#32 : Ideal .f32)))
    (broadcast S32x1 (Scalar.ofBits .f32 0x3F800000#32 : Ideal .f32))
    (divf (stM g) (broadcast S32x1 (Scalar.ofBits .f32 0x43E00000#32 : Ideal .f32)))

/-- The codes of a strip. -/
def stC (g : FVec Ideal S32x768 .f32) : FVec Ideal S32x768 .fp8e4m3 :=
  have inv : FVec Ideal S32x768 .f32 := broadcastTo S32x768 (divf (broadcast S32x1 (Scalar.ofBits .f32 0x3F800000#32 : Ideal .f32)) (stL g)) broadcasts_S32x1_S32x768
  truncf .fp8e4m3 (minimumf (broadcast S32x768 (Scalar.ofBits .f32 0x43E00000#32 : Ideal .f32))
    (maximumf (broadcast S32x768 (Scalar.ofBits .f32 0xC3E00000#32 : Ideal .f32)) (mulf g inv))) bitsLt_fp8e4m3_f32

/-- The scales of a strip's codes, with the root of one half, each along a row of 128. -/
def stS (g : FVec Ideal S32x768 .f32) : FVec Ideal S32x128 .f32 :=
  broadcastTo S32x128 (shapeCast S32x1 (select (cmpf .oeq (stM g) (broadcast S32x1 (Scalar.ofBits .f32 0x00000000#32 : Ideal .f32)))
    (broadcast S32x1 (Scalar.ofBits .f32 0x3F800000#32 : Ideal .f32))
    (mulf (stL g) (broadcast S32x1 (Named.named κ "sqrt_half" 0x3F3504F3#32 : Ideal .f32)))) shapeCasts_S32x1_S32x1) broadcasts_S32x1_S32x128

/-! ## The block -/

/-- The four strips' gelu. -/
def blG (acc : FVec Ideal S128x768 .f32) (spr : FVec Ideal S128x128 .f32) (r0 r1 : Vec Ideal S1x768 .f32) : Fin 4 → FVec Ideal S32x768 .f32
  | 0 => stG 0 slices_S128x128_o0_0_S32x128 slices_S128x768_o0_0_S32x768 acc spr r0 r1
  | 1 => stG 32 slices_S128x128_o32_0_S32x128 slices_S128x768_o32_0_S32x768 acc spr r0 r1
  | 2 => stG 64 slices_S128x128_o64_0_S32x128 slices_S128x768_o64_0_S32x768 acc spr r0 r1
  | 3 => stG 96 slices_S128x128_o96_0_S32x128 slices_S128x768_o96_0_S32x768 acc spr r0 r1

/-- Four strips of codes, one under the other. -/
def blC (g : Fin 4 → FVec Ideal S32x768 .f32) : FVec Ideal S128x768 .fp8e4m3 :=
  concatenate S128x768 0 [⟨S32x768, stC (g 0)⟩, ⟨S32x768, stC (g 1)⟩, ⟨S32x768, stC (g 2)⟩, ⟨S32x768, stC (g 3)⟩] concatenates_S32x768_S32x768_S32x768_S32x768_S128x768_d0

/-- The scales of four strips, as a row. -/
def blS (g : Fin 4 → FVec Ideal S32x768 .f32) : FVec Ideal S1x128 .f32 :=
  extractStridedSlice S1x128 ![0, 0] (transpose S128x128 [1, 0] (concatenate S128x128 0 [⟨S32x128, stS (g 0)⟩, ⟨S32x128, stS (g 1)⟩, ⟨S32x128, stS (g 2)⟩, ⟨S32x128, stS (g 3)⟩] concatenates_S32x128_S32x128_S32x128_S32x128_S128x128_d0) transposes_S128x128_p1_0_S128x128) slices_S128x128_o0_0_S1x128

/-! ## Their values at an index -/

/-- A token's hidden values, from its products `q`, its scale `s` and the rows `a` and `b`. -/
def gv (q : Fin 768 → EReal) (s : EReal) (a b : Fin 768 → EReal) (j : Fin 768) : EReal :=
  (q j * s * (a j * rt) + b j * rt) * (1 + erfE (q j * s * (a j * rt) + b j * rt))

/-- The scale of a token's hidden codes. -/
def gs (v : Fin 768 → EReal) : EReal := if amax v = 0 then 1 else scl v * rt

/-- A strip's gelu at an index. -/
theorem stG_at (o : ℕ) (h1 : S128x128.Slices ![o, 0] S32x128) (h2 : S128x768.Slices ![o, 0] S32x768) (acc : FVec Ideal S128x768 .f32)
    (spr : FVec Ideal S128x128 .f32) (r0 r1 : Vec Ideal S1x768 .f32) (n : Fin 128) (r : Fin 32) (e : n.val = o + r.val)
    (q : Fin 768 → EReal) (s : EReal) (a b : Fin 768 → EReal) (hq : ∀ j, acc (ix2 n j) = q j) (hs : ∀ p, spr (ix2 n p) = s)
    (ha : ∀ j, r0 (ix2 0 j) = a j) (hb : ∀ j, r1 (ix2 0 j) = b j) (j : Fin 768) :
    stG o h1 h2 acc spr r0 r1 (ix2 r j) = gv q s a b j := by
  have ho : o + r.val < 128 := e ▸ n.isLt
  obtain rfl : n = ⟨o + r.val, ho⟩ := Fin.ext e
  pointwise [stG]
  simp only [hq, hs, ha, hb, dite_eq_ite, ite_self]
  unfold gv erfE rt
  rfl

/-- A strip's largest magnitude. -/
theorem stM_at (g : FVec Ideal S32x768 .f32) (r : Fin 32) : stM g (ix2 r 0) = amax (fun j => g (ix2 r j)) := by
  pointwise [stM]
  rfl

/-- A strip's scale. -/
theorem stL_at (g : FVec Ideal S32x768 .f32) (r : Fin 32) : stL g (ix2 r 0) = scl (fun j => g (ix2 r j)) := by
  pointwise [stL]
  simp only [stM_at]
  generalize (fun j => g (ix2 r j)) = v
  rfl

/-- A strip's codes. -/
theorem stC_at (g : FVec Ideal S32x768 .f32) (r : Fin 32) (j : Fin 768) : stC g (ix2 r j) = cod (fun j => g (ix2 r j)) j := by
  pointwise [stC]
  simp only [stL_at]
  rfl

/-- A strip's scales. -/
theorem stS_at (g : FVec Ideal S32x768 .f32) (r : Fin 32) (p : Fin 128) : stS g (ix2 r p) = gs (fun j => g (ix2 r j)) := by
  pointwise [stS]
  simp only [stM_at, stL_at]
  unfold gs rt
  generalize (fun j => g (ix2 r j)) = v
  rfl

/-- A choice among four strips by the row is the strip that the row is in. -/
theorem pick {α : Type*} (f : Fin 4 → Fin 32 → α) (m : ℕ) (hm : m < 128) (i : Fin 4) (r : Fin 32) (e : m = 32 * i.val + r.val) :
    (if h : m < 32 then f 0 ⟨m, h⟩ else if h : m - 32 < 32 then f 1 ⟨m - 32, h⟩
      else if h : m - 32 - 32 < 32 then f 2 ⟨m - 32 - 32, h⟩ else f 3 ⟨m - 32 - 32 - 32, by omega⟩) = f i r := by
  have hr := r.isLt
  obtain ⟨i, hi⟩ := i
  simp only at e
  split_ifs with h1 h2 h3
  · obtain rfl : i = 0 := by omega
    exact congrArg (f 0) (Fin.ext (by simp only; omega))
  · obtain rfl : i = 1 := by omega
    exact congrArg (f 1) (Fin.ext (by simp only; omega))
  · obtain rfl : i = 2 := by omega
    exact congrArg (f 2) (Fin.ext (by simp only; omega))
  · obtain rfl : i = 3 := by omega
    exact congrArg (f 3) (Fin.ext (by simp only; omega))

/-- A row of a block's codes is a row of one of its strips. -/
theorem blC_at (g : Fin 4 → FVec Ideal S32x768 .f32) (i : Fin 4) (r : Fin 32) (n : Fin 128) (e : n.val = 32 * i.val + r.val) (j : Fin 768) :
    blC g (ix2 n j) = stC (g i) (ix2 r j) := by
  pointwise [blC]
  exact pick (fun i r => stC (g i) (ix2 r j)) n.val n.isLt i r e

/-- A block's scale is a scale of one of its strips. -/
theorem blS_at (g : Fin 4 → FVec Ideal S32x768 .f32) (i : Fin 4) (r : Fin 32) (n : Fin 128) (e : n.val = 32 * i.val + r.val) :
    blS g (ix2 0 n) = stS (g i) (ix2 r 0) := by
  pointwise [blS]
  exact pick (fun i r => stS (g i) (ix2 r 0)) n.val n.isLt i r e

/-- A row of a block's gelu. -/
theorem blG_at (acc : FVec Ideal S128x768 .f32) (spr : FVec Ideal S128x128 .f32) (r0 r1 : Vec Ideal S1x768 .f32) (i : Fin 4) (r : Fin 32)
    (n : Fin 128) (e : n.val = 32 * i.val + r.val) (q : Fin 768 → EReal) (s : EReal) (a b : Fin 768 → EReal)
    (hq : ∀ j, acc (ix2 n j) = q j) (hs : ∀ p, spr (ix2 n p) = s) (ha : ∀ j, r0 (ix2 0 j) = a j) (hb : ∀ j, r1 (ix2 0 j) = b j) :
    (fun j => blG acc spr r0 r1 i (ix2 r j)) = gv q s a b := by
  funext j
  fin_cases i
  · exact stG_at 0 _ _ acc spr r0 r1 n r e q s a b hq hs ha hb j
  · exact stG_at 32 _ _ acc spr r0 r1 n r e q s a b hq hs ha hb j
  · exact stG_at 64 _ _ acc spr r0 r1 n r e q s a b hq hs ha hb j
  · exact stG_at 96 _ _ acc spr r0 r1 n r e q s a b hq hs ha hb j

/-- A block's codes at an index. -/
theorem block_codes (acc : FVec Ideal S128x768 .f32) (spr : FVec Ideal S128x128 .f32) (r0 r1 : Vec Ideal S1x768 .f32)
    (n : Fin 128) (q : Fin 768 → EReal) (s : EReal) (a b : Fin 768 → EReal)
    (hq : ∀ j, acc (ix2 n j) = q j) (hs : ∀ p, spr (ix2 n p) = s) (ha : ∀ j, r0 (ix2 0 j) = a j) (hb : ∀ j, r1 (ix2 0 j) = b j) (j : Fin 768) :
    blC (blG acc spr r0 r1) (ix2 n j) = cod (gv q s a b) j := by
  have e : n.val = 32 * (n.val / 32) + n.val % 32 := by omega
  rw [blC_at _ ⟨n.val / 32, by omega⟩ ⟨n.val % 32, by omega⟩ n e, stC_at, blG_at acc spr r0 r1 _ _ n e q s a b hq hs ha hb]

/-- A block's scales at an index. -/
theorem block_scales (acc : FVec Ideal S128x768 .f32) (spr : FVec Ideal S128x128 .f32) (r0 r1 : Vec Ideal S1x768 .f32)
    (n : Fin 128) (q : Fin 768 → EReal) (s : EReal) (a b : Fin 768 → EReal)
    (hq : ∀ j, acc (ix2 n j) = q j) (hs : ∀ p, spr (ix2 n p) = s) (ha : ∀ j, r0 (ix2 0 j) = a j) (hb : ∀ j, r1 (ix2 0 j) = b j) :
    blS (blG acc spr r0 r1) (ix2 0 n) = gs (gv q s a b) := by
  have e : n.val = 32 * (n.val / 32) + n.val % 32 := by omega
  rw [blS_at _ ⟨n.val / 32, by omega⟩ ⟨n.val % 32, by omega⟩ n e, stS_at, blG_at acc spr r0 r1 _ _ n e q s a b hq hs ha hb]

end Cert.Proof.KernelIdeal

end
-- ==== Proof.KernelIdeal.S2a.lean ====
/- The second half of a trip, block 0 of longitudes. -/
module

public import proofs.«01_k».proof.Proof.KernelIdeal.Strip

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Tok
open Idealize.ShloMosaic.Pipeline (Dat Cfg Window BodyObligation BodyObligationLoose cellOf)

variable {c : Dev nD} {arg1 : Memref sig .tc .vmem S8x1x192x360 .bf16} {arg2 : Memref sig .tc .vmem S8x1x192x360 .fp8e4m3} {arg3 : Memref sig .tc .vmem S1x8x360 .f32} {arg4 : Memref sig .tc .vmem S192x192 .fp8e4m3} {arg5 : Memref sig .tc .vmem S192x768 .fp8e4m3} {arg6 : Memref sig .tc .vmem S192x768 .fp8e4m3} {arg7 : Memref sig .tc .vmem S8x192x128 .f32} {arg8 : Memref sig .tc .vmem S2x768 .f32} {arg9 : Memref sig .tc .vmem S256x256 .f32} {arg10 : Memref sig .tc .vmem S8x1x192x360 .bf16} {arg11 : Memref sig .tc .vmem S8x1x192x360 .fp8e4m3} {arg12 : Memref sig .tc .vmem S1x8x360 .f32} {arg13 : Memref sig .tc .vmem S8x1x360x768 .fp8e4m3} {arg14 : Memref sig .tc .vmem S1x8x360 .f32} {arg15 : Memref sig .tc .vmem S192x384 .fp8e4m3} {arg16 : Memref sig .tc .vmem S192x384 .f32} {k : Fin k0_t1_loop.trips} {f1 : Buf (Elt Ideal) (arg1.view.loc (c : Thread nD τ))} {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))}

/-- The codes of the MLP's input, read back from the scratch where the first half of the trip kept them. -/
theorem mt0 (d : Fin 192) (n : Fin 128) : (trip.sl.v271 c arg1 arg2 arg3 arg4 arg7 arg15 k f1 f2 f3 f4 f7) (ix2 d n) = (trip.sl.v79 c arg1 arg2 arg3 arg4 arg7 k f1 f2 f3 f4 f7) (ix2 d n) := by
  simp only [trip.sl.v271, trip.sl.H15_3, trip.sl.H15_2, trip.sl.H15_1]
  rw [View.readCov_skip _ _ _ _ _ (by decide), View.readCov_skip _ _ _ _ _ (by decide), View.readCov_cons_toLoadRect]
  pointwise [trip.sl.v82]

/-- The first residual, read back from the scratch where the first half of the trip kept it. -/
theorem xr0 (d : Fin 192) (n : Fin 128) : (trip.sl.v515 c arg1 arg2 arg3 arg4 arg7 arg16 k f1 f2 f3 f4 f7) (ix2 d n) = (trip.sl.v58 c arg1 arg2 arg3 arg4 arg7 k f1 f2 f3 f4 f7) (ix2 d n) := by
  simp only [trip.sl.v515, trip.sl.H16_3, trip.sl.H16_2, trip.sl.H16_1]
  rw [View.readCov_skip _ _ _ _ _ (by decide), View.readCov_skip _ _ _ _ _ (by decide), View.readCov_cons_toLoadRect]
  pointwise [trip.sl.v61]

/-- The first layer's product of the block, in token order. -/
theorem q0 (hE : Eye (arg9.view.read (Elt Ideal) f9)) (n : Fin 128) (j : Fin 768) : (Gen.k0_pay36 (F := Ideal) (trip.sl.v270 c arg9 f9) (trip.sl.v271 c arg1 arg2 arg3 arg4 arg7 arg15 k f1 f2 f3 f4 f7) (View.readAt (Elt Ideal) arg5.view (Rect.unit (s := S192x768) ![0, 0] S192x768.size Gen.inb_S192x768_S192x768_0_0).toLoadRect f5)) (ix2 n j) = ∑ d : Fin 192, cod (X (arg1.view.read (Elt Ideal) f1) (arg2.view.read (Elt Ideal) f2) (arg3.view.read (Elt Ideal) f3) (arg4.view.read (Elt Ideal) f4) (arg7.view.read (Elt Ideal) f7) (ml k) ⟨n.val, by omega⟩ n) d * (arg5.view.read (Elt Ideal) f5) (ix2 d j) := by
  pointwise [Gen.k0_pay36, trip.sl.v270, trip.sl.v269, View.readAt_eq_ld]
  simp only [eye_sum hE]
  simp only [mt0, c0, Nat.zero_add]

/-- The scales of the MLP's input, one token a row, the same in every lane. -/
theorem t0 (n p : Fin 128) : (Gen.k0_pay37 (F := Ideal) (trip.sl.v70 c arg1 arg2 arg3 arg4 arg7 k f1 f2 f3 f4 f7)) (ix2 n p) = scl (X (arg1.view.read (Elt Ideal) f1) (arg2.view.read (Elt Ideal) f2) (arg3.view.read (Elt Ideal) f3) (arg4.view.read (Elt Ideal) f4) (arg7.view.read (Elt Ideal) f7) (ml k) ⟨n.val, by omega⟩ n) := by
  pointwise [Gen.k0_pay37, View.readAt_eq_ld]
  simp only [s0, Nat.zero_add]

/-- The codes of the block. -/
theorem hc0 (hE : Eye (arg9.view.read (Elt Ideal) f9)) (n : Fin 128) (j : Fin 768) : (Gen.k0_pay60 (F := Ideal) (trip.sl.v316 c arg1 arg2 arg3 arg4 arg5 arg7 arg8 arg9 arg15 k f1 f2 f3 f4 f5 f7 f8 f9) (trip.sl.v362 c arg1 arg2 arg3 arg4 arg5 arg7 arg8 arg9 arg15 k f1 f2 f3 f4 f5 f7 f8 f9) (trip.sl.v408 c arg1 arg2 arg3 arg4 arg5 arg7 arg8 arg9 arg15 k f1 f2 f3 f4 f5 f7 f8 f9) (trip.sl.v436 c arg1 arg2 arg3 arg4 arg5 arg7 arg8 arg9 arg15 k f1 f2 f3 f4 f5 f7 f8 f9) (trip.sl.v441 c arg1 arg2 arg3 arg4 arg5 arg7 arg8 arg9 arg15 k f1 f2 f3 f4 f5 f7 f8 f9) (trip.sl.v443 c arg1 arg2 arg3 arg4 arg5 arg7 arg8 arg9 arg15 k f1 f2 f3 f4 f5 f7 f8 f9) (trip.sl.cst_24 (F := Ideal))) (ix2 n j) = cod (G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨n.val, by omega⟩ n) j := by
  refine Eq.trans (b := blC (blG (Gen.k0_pay36 (F := Ideal) (trip.sl.v270 c arg9 f9) (trip.sl.v271 c arg1 arg2 arg3 arg4 arg7 arg15 k f1 f2 f3 f4 f7) (View.readAt (Elt Ideal) arg5.view (Rect.unit (s := S192x768) ![0, 0] S192x768.size Gen.inb_S192x768_S192x768_0_0).toLoadRect f5)) (Gen.k0_pay37 (F := Ideal) (trip.sl.v70 c arg1 arg2 arg3 arg4 arg7 k f1 f2 f3 f4 f7))
    (View.readAt (Elt Ideal) arg8.view (Rect.unit (s := S2x768) ![0, 0] S1x768.size Gen.inb_S2x768_S1x768_0_0).toLoadRect f8)
    (View.readAt (Elt Ideal) arg8.view (Rect.unit (s := S2x768) ![1, 0] S1x768.size Gen.inb_S2x768_S1x768_1_0).toLoadRect f8)) (ix2 n j)) rfl ?_
  refine block_codes _ _ _ _ n _ _ (fun j => (arg8.view.read (Elt Ideal) f8) (ix2 0 j)) (fun j => (arg8.view.read (Elt Ideal) f8) (ix2 1 j))
    (fun j => q0 hE n j) (fun p => t0 n p) (fun j => ?_) (fun j => ?_) j <;>
  pointwise [View.readAt_eq_ld]

/-- The scales of the block. -/
theorem hs0 (hE : Eye (arg9.view.read (Elt Ideal) f9)) (n : Fin 128) : (Gen.k0_pay61 (F := Ideal) (trip.sl.v324 c arg1 arg2 arg3 arg4 arg5 arg7 arg8 arg9 arg15 k f1 f2 f3 f4 f5 f7 f8 f9) (trip.sl.v370 c arg1 arg2 arg3 arg4 arg5 arg7 arg8 arg9 arg15 k f1 f2 f3 f4 f5 f7 f8 f9) (trip.sl.v416 c arg1 arg2 arg3 arg4 arg5 arg7 arg8 arg9 arg15 k f1 f2 f3 f4 f5 f7 f8 f9) (trip.sl.v439 c arg1 arg2 arg3 arg4 arg5 arg7 arg8 arg9 arg15 k f1 f2 f3 f4 f5 f7 f8 f9) (trip.sl.v441 c arg1 arg2 arg3 arg4 arg5 arg7 arg8 arg9 arg15 k f1 f2 f3 f4 f5 f7 f8 f9) (trip.sl.v443 c arg1 arg2 arg3 arg4 arg5 arg7 arg8 arg9 arg15 k f1 f2 f3 f4 f5 f7 f8 f9) (trip.sl.cst_24 (F := Ideal))) (ix2 0 n) = HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨n.val, by omega⟩ n := by
  refine Eq.trans (b := blS (blG (Gen.k0_pay36 (F := Ideal) (trip.sl.v270 c arg9 f9) (trip.sl.v271 c arg1 arg2 arg3 arg4 arg7 arg15 k f1 f2 f3 f4 f7) (View.readAt (Elt Ideal) arg5.view (Rect.unit (s := S192x768) ![0, 0] S192x768.size Gen.inb_S192x768_S192x768_0_0).toLoadRect f5)) (Gen.k0_pay37 (F := Ideal) (trip.sl.v70 c arg1 arg2 arg3 arg4 arg7 k f1 f2 f3 f4 f7))
    (View.readAt (Elt Ideal) arg8.view (Rect.unit (s := S2x768) ![0, 0] S1x768.size Gen.inb_S2x768_S1x768_0_0).toLoadRect f8)
    (View.readAt (Elt Ideal) arg8.view (Rect.unit (s := S2x768) ![1, 0] S1x768.size Gen.inb_S2x768_S1x768_1_0).toLoadRect f8)) (ix2 0 n)) rfl ?_
  refine block_scales _ _ _ _ n _ _ (fun j => (arg8.view.read (Elt Ideal) f8) (ix2 0 j)) (fun j => (arg8.view.read (Elt Ideal) f8) (ix2 1 j))
    (fun j => q0 hE n j) (fun p => t0 n p) (fun j => ?_) (fun j => ?_) <;>
  pointwise [View.readAt_eq_ld]

end Cert.Proof.KernelIdeal

end
-- ==== Proof.KernelIdeal.S2b.lean ====
/- The second half of a trip, block 1 of longitudes. -/
module

public import proofs.«01_k».proof.Proof.KernelIdeal.Strip

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Tok
open Idealize.ShloMosaic.Pipeline (Dat Cfg Window BodyObligation BodyObligationLoose cellOf)

variable {c : Dev nD} {arg1 : Memref sig .tc .vmem S8x1x192x360 .bf16} {arg2 : Memref sig .tc .vmem S8x1x192x360 .fp8e4m3} {arg3 : Memref sig .tc .vmem S1x8x360 .f32} {arg4 : Memref sig .tc .vmem S192x192 .fp8e4m3} {arg5 : Memref sig .tc .vmem S192x768 .fp8e4m3} {arg6 : Memref sig .tc .vmem S192x768 .fp8e4m3} {arg7 : Memref sig .tc .vmem S8x192x128 .f32} {arg8 : Memref sig .tc .vmem S2x768 .f32} {arg9 : Memref sig .tc .vmem S256x256 .f32} {arg10 : Memref sig .tc .vmem S8x1x192x360 .bf16} {arg11 : Memref sig .tc .vmem S8x1x192x360 .fp8e4m3} {arg12 : Memref sig .tc .vmem S1x8x360 .f32} {arg13 : Memref sig .tc .vmem S8x1x360x768 .fp8e4m3} {arg14 : Memref sig .tc .vmem S1x8x360 .f32} {arg15 : Memref sig .tc .vmem S192x384 .fp8e4m3} {arg16 : Memref sig .tc .vmem S192x384 .f32} {k : Fin k0_t1_loop.trips} {f1 : Buf (Elt Ideal) (arg1.view.loc (c : Thread nD τ))} {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))}

/-- The codes of the MLP's input, read back from the scratch where the first half of the trip kept them. -/
theorem mt1 (d : Fin 192) (n : Fin 128) : (trip.sl.v525 c arg1 arg2 arg3 arg4 arg7 arg15 k f1 f2 f3 f4 f7) (ix2 d n) = (trip.sl.v163 c arg1 arg2 arg3 arg4 arg7 k f1 f2 f3 f4 f7) (ix2 d n) := by
  simp only [trip.sl.v525, trip.sl.H15_3, trip.sl.H15_2, trip.sl.H15_1]
  rw [View.readCov_skip _ _ _ _ _ (by decide), View.readCov_cons_toLoadRect]
  pointwise [trip.sl.v166]

/-- The first residual, read back from the scratch where the first half of the trip kept it. -/
theorem xr1 (d : Fin 192) (n : Fin 128) : (trip.sl.v769 c arg1 arg2 arg3 arg4 arg7 arg16 k f1 f2 f3 f4 f7) (ix2 d n) = (trip.sl.v142 c arg1 arg2 arg3 arg4 arg7 k f1 f2 f3 f4 f7) (ix2 d n) := by
  simp only [trip.sl.v769, trip.sl.H16_3, trip.sl.H16_2, trip.sl.H16_1]
  rw [View.readCov_skip _ _ _ _ _ (by decide), View.readCov_cons_toLoadRect]
  pointwise [trip.sl.v145]

/-- The first layer's product of the block, in token order. -/
theorem q1 (hE : Eye (arg9.view.read (Elt Ideal) f9)) (n : Fin 128) (j : Fin 768) : (Gen.k0_pay67 (F := Ideal) (View.readAt (Elt Ideal) arg9.view (Rect.unit (s := S256x256) ![0, 0] S128x128.size Gen.inb_S256x256_S128x128_0_0).toLoadRect f9) (trip.sl.v525 c arg1 arg2 arg3 arg4 arg7 arg15 k f1 f2 f3 f4 f7)   (View.readAt (Elt Ideal) arg5.view (Rect.unit (s := S192x768) ![0, 0] S192x768.size Gen.inb_S192x768_S192x768_0_0).toLoadRect f5)) (ix2 n j) = ∑ d : Fin 192, cod (X (arg1.view.read (Elt Ideal) f1) (arg2.view.read (Elt Ideal) f2) (arg3.view.read (Elt Ideal) f3) (arg4.view.read (Elt Ideal) f4) (arg7.view.read (Elt Ideal) f7) (ml k) ⟨128 + n.val, by omega⟩ n) d * (arg5.view.read (Elt Ideal) f5) (ix2 d j) := by
  pointwise [Gen.k0_pay67, View.readAt_eq_ld]
  simp only [eye_sum hE]
  simp only [mt1, c1, Nat.zero_add]

/-- The scales of the MLP's input, one token a row, the same in every lane. -/
theorem t1 (n p : Fin 128) : (Gen.k0_pay68 (F := Ideal) (trip.sl.v154 c arg1 arg2 arg3 arg4 arg7 k f1 f2 f3 f4 f7)) (ix2 n p) = scl (X (arg1.view.read (Elt Ideal) f1) (arg2.view.read (Elt Ideal) f2) (arg3.view.read (Elt Ideal) f3) (arg4.view.read (Elt Ideal) f4) (arg7.view.read (Elt Ideal) f7) (ml k) ⟨128 + n.val, by omega⟩ n) := by
  pointwise [Gen.k0_pay68, View.readAt_eq_ld]
  simp only [s1, Nat.zero_add]

/-- The codes of the block. -/
theorem hc1 (hE : Eye (arg9.view.read (Elt Ideal) f9)) (n : Fin 128) (j : Fin 768) : (Gen.k0_pay94 (F := Ideal) (trip.sl.v570 c arg1 arg2 arg3 arg4 arg5 arg7 arg8 arg9 arg15 k f1 f2 f3 f4 f5 f7 f8 f9) (trip.sl.v616 c arg1 arg2 arg3 arg4 arg5 arg7 arg8 arg9 arg15 k f1 f2 f3 f4 f5 f7 f8 f9) (trip.sl.v662 c arg1 arg2 arg3 arg4 arg5 arg7 arg8 arg9 arg15 k f1 f2 f3 f4 f5 f7 f8 f9) (trip.sl.v690 c arg1 arg2 arg3 arg4 arg5 arg7 arg8 arg9 arg15 k f1 f2 f3 f4 f5 f7 f8 f9) (trip.sl.v693 c arg1 arg2 arg3 arg4 arg5 arg7 arg8 arg9 arg15 k f1 f2 f3 f4 f5 f7 f8 f9) (Gen.k0_pay92 (F := Ideal))) (ix2 n j) = cod (G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨128 + n.val, by omega⟩ n) j := by
  refine Eq.trans (b := blC (blG (Gen.k0_pay67 (F := Ideal) (View.readAt (Elt Ideal) arg9.view (Rect.unit (s := S256x256) ![0, 0] S128x128.size Gen.inb_S256x256_S128x128_0_0).toLoadRect f9) (trip.sl.v525 c arg1 arg2 arg3 arg4 arg7 arg15 k f1 f2 f3 f4 f7)   (View.readAt (Elt Ideal) arg5.view (Rect.unit (s := S192x768) ![0, 0] S192x768.size Gen.inb_S192x768_S192x768_0_0).toLoadRect f5)) (Gen.k0_pay68 (F := Ideal) (trip.sl.v154 c arg1 arg2 arg3 arg4 arg7 k f1 f2 f3 f4 f7))
    (View.readAt (Elt Ideal) arg8.view (Rect.unit (s := S2x768) ![0, 0] S1x768.size Gen.inb_S2x768_S1x768_0_0).toLoadRect f8)
    (View.readAt (Elt Ideal) arg8.view (Rect.unit (s := S2x768) ![1, 0] S1x768.size Gen.inb_S2x768_S1x768_1_0).toLoadRect f8)) (ix2 n j)) rfl ?_
  refine block_codes _ _ _ _ n _ _ (fun j => (arg8.view.read (Elt Ideal) f8) (ix2 0 j)) (fun j => (arg8.view.read (Elt Ideal) f8) (ix2 1 j))
    (fun j => q1 hE n j) (fun p => t1 n p) (fun j => ?_) (fun j => ?_) j <;>
  pointwise [View.readAt_eq_ld]

/-- The scales of the block. -/
theorem hs1 (hE : Eye (arg9.view.read (Elt Ideal) f9)) (n : Fin 128) : (Gen.k0_pay95 (F := Ideal) (trip.sl.v578 c arg1 arg2 arg3 arg4 arg5 arg7 arg8 arg9 arg15 k f1 f2 f3 f4 f5 f7 f8 f9) (trip.sl.v624 c arg1 arg2 arg3 arg4 arg5 arg7 arg8 arg9 arg15 k f1 f2 f3 f4 f5 f7 f8 f9) (trip.sl.v670 c arg1 arg2 arg3 arg4 arg5 arg7 arg8 arg9 arg15 k f1 f2 f3 f4 f5 f7 f8 f9) (trip.sl.v693 c arg1 arg2 arg3 arg4 arg5 arg7 arg8 arg9 arg15 k f1 f2 f3 f4 f5 f7 f8 f9) (Gen.k0_pay92 (F := Ideal))) (ix2 0 n) = HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨128 + n.val, by omega⟩ n := by
  refine Eq.trans (b := blS (blG (Gen.k0_pay67 (F := Ideal) (View.readAt (Elt Ideal) arg9.view (Rect.unit (s := S256x256) ![0, 0] S128x128.size Gen.inb_S256x256_S128x128_0_0).toLoadRect f9) (trip.sl.v525 c arg1 arg2 arg3 arg4 arg7 arg15 k f1 f2 f3 f4 f7)   (View.readAt (Elt Ideal) arg5.view (Rect.unit (s := S192x768) ![0, 0] S192x768.size Gen.inb_S192x768_S192x768_0_0).toLoadRect f5)) (Gen.k0_pay68 (F := Ideal) (trip.sl.v154 c arg1 arg2 arg3 arg4 arg7 k f1 f2 f3 f4 f7))
    (View.readAt (Elt Ideal) arg8.view (Rect.unit (s := S2x768) ![0, 0] S1x768.size Gen.inb_S2x768_S1x768_0_0).toLoadRect f8)
    (View.readAt (Elt Ideal) arg8.view (Rect.unit (s := S2x768) ![1, 0] S1x768.size Gen.inb_S2x768_S1x768_1_0).toLoadRect f8)) (ix2 0 n)) rfl ?_
  refine block_scales _ _ _ _ n _ _ (fun j => (arg8.view.read (Elt Ideal) f8) (ix2 0 j)) (fun j => (arg8.view.read (Elt Ideal) f8) (ix2 1 j))
    (fun j => q1 hE n j) (fun p => t1 n p) (fun j => ?_) (fun j => ?_) <;>
  pointwise [View.readAt_eq_ld]

end Cert.Proof.KernelIdeal

end
-- ==== Proof.KernelIdeal.S2c.lean ====
/- The second half of a trip, block 2 of longitudes. -/
module

public import proofs.«01_k».proof.Proof.KernelIdeal.Strip

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Tok
open Idealize.ShloMosaic.Pipeline (Dat Cfg Window BodyObligation BodyObligationLoose cellOf)

variable {c : Dev nD} {arg1 : Memref sig .tc .vmem S8x1x192x360 .bf16} {arg2 : Memref sig .tc .vmem S8x1x192x360 .fp8e4m3} {arg3 : Memref sig .tc .vmem S1x8x360 .f32} {arg4 : Memref sig .tc .vmem S192x192 .fp8e4m3} {arg5 : Memref sig .tc .vmem S192x768 .fp8e4m3} {arg6 : Memref sig .tc .vmem S192x768 .fp8e4m3} {arg7 : Memref sig .tc .vmem S8x192x128 .f32} {arg8 : Memref sig .tc .vmem S2x768 .f32} {arg9 : Memref sig .tc .vmem S256x256 .f32} {arg10 : Memref sig .tc .vmem S8x1x192x360 .bf16} {arg11 : Memref sig .tc .vmem S8x1x192x360 .fp8e4m3} {arg12 : Memref sig .tc .vmem S1x8x360 .f32} {arg13 : Memref sig .tc .vmem S8x1x360x768 .fp8e4m3} {arg14 : Memref sig .tc .vmem S1x8x360 .f32} {arg15 : Memref sig .tc .vmem S192x384 .fp8e4m3} {arg16 : Memref sig .tc .vmem S192x384 .f32} {k : Fin k0_t1_loop.trips} {f1 : Buf (Elt Ideal) (arg1.view.loc (c : Thread nD τ))} {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))}

/-- The codes of the MLP's input, read back from the scratch where the first half of the trip kept them. -/
theorem mt2 (d : Fin 192) (n : Fin 104) : arg15.view.read (Elt Ideal) (arg15.view.writes (Elt Ideal) f15 (trip.sl.H15_3 c arg1 arg2 arg3 arg4 arg7 k f1 f2 f3 f4 f7)) (ix2 d ⟨256 + n.val, by omega⟩) = (trip.sl.v251 c arg1 arg2 arg3 arg4 arg7 k f1 f2 f3 f4 f7) (ix2 d n) := by
  simp only [trip.sl.H15_3]
  have e : (ix2 d ⟨256 + n.val, by omega⟩ : S192x384.Idx) = (Rect.unit (s := S192x384) ![0, 256] S192x104.size Gen.inb_S192x384_S192x104_0_256).emb (ix2 d n) := by
    funext a; fin_cases a
    · exact Fin.ext (by show d.val = 0 + 1 * d.val; omega)
    · exact Fin.ext (by show 256 + n.val = 256 + 1 * n.val; omega)
  rw [e, View.read_writes_cons_emb]
  pointwise [trip.sl.v254]

/-- The first residual, read back from the scratch where the first half of the trip kept it. -/
theorem xr2 (d : Fin 192) (n : Fin 104) : (trip.sl.v1027 c arg1 arg2 arg3 arg4 arg7 arg16 k f1 f2 f3 f4 f7) (ix2 d n) = (trip.sl.v230 c arg1 arg2 arg3 arg4 arg7 k f1 f2 f3 f4 f7) (ix2 d n) := by
  simp only [trip.sl.v1027, trip.sl.H16_3]
  rw [View.readCov_cons_toLoadRect]
  pointwise [trip.sl.v233]

/-- The first layer's product of the block, in token order. -/
theorem q2 (hE : Eye (arg9.view.read (Elt Ideal) f9)) (n : Fin 128) (j : Fin 768) (hn : n.val < 104) : (Gen.k0_pay102 (F := Ideal) (View.readAt (Elt Ideal) arg9.view (Rect.unit (s := S256x256) ![0, 0] S128x128.size Gen.inb_S256x256_S128x128_0_0).toLoadRect f9)   (View.readAt (Elt Ideal) arg15.view (Rect.unit (s := S192x384) ![0, 256] S192x128.size Gen.inb_S192x384_S192x128_0_256).toLoadRect (arg15.view.writes (Elt Ideal) f15 (trip.sl.H15_3 c arg1 arg2 arg3 arg4 arg7 k f1 f2 f3 f4 f7)))   (View.readAt (Elt Ideal) arg5.view (Rect.unit (s := S192x768) ![0, 0] S192x768.size Gen.inb_S192x768_S192x768_0_0).toLoadRect f5)) (ix2 n j) = ∑ d : Fin 192, cod (X (arg1.view.read (Elt Ideal) f1) (arg2.view.read (Elt Ideal) f2) (arg3.view.read (Elt Ideal) f3) (arg4.view.read (Elt Ideal) f4) (arg7.view.read (Elt Ideal) f7) (ml k) ⟨256 + n.val, by omega⟩ n) d * (arg5.view.read (Elt Ideal) f5) (ix2 d j) := by
  pointwise [Gen.k0_pay102, View.readAt_eq_ld]
  simp only [eye_sum hE]
  have e : ∀ d, _ = _ := fun d => mt2 (c := c) (arg1 := arg1) (arg2 := arg2) (arg3 := arg3) (arg4 := arg4) (arg7 := arg7) (arg15 := arg15) (k := k) (f1 := f1) (f2 := f2) (f3 := f3) (f4 := f4) (f7 := f7) (f15 := f15) d ⟨n.val, hn⟩
  simp only [e, c2]

/-- The scales of the MLP's input, one token a row, the same in every lane. -/
theorem t2 (n p : Fin 128) (hn : n.val < 104) : (Gen.k0_pay103 (F := Ideal) (trip.sl.v242 c arg1 arg2 arg3 arg4 arg7 k f1 f2 f3 f4 f7)) (ix2 n p) = scl (X (arg1.view.read (Elt Ideal) f1) (arg2.view.read (Elt Ideal) f2) (arg3.view.read (Elt Ideal) f3) (arg4.view.read (Elt Ideal) f4) (arg7.view.read (Elt Ideal) f7) (ml k) ⟨256 + n.val, by omega⟩ n) := by
  pointwise [Gen.k0_pay103, View.readAt_eq_ld]
  rw [dif_pos hn, s2]

/-- The codes of the block. -/
theorem hc2 (hE : Eye (arg9.view.read (Elt Ideal) f9)) (n : Fin 128) (hn : n.val < 104) (j : Fin 768) : (Gen.k0_pay127 (F := Ideal) (trip.sl.v826 c arg1 arg2 arg3 arg4 arg5 arg7 arg8 arg9 arg15 k f1 f2 f3 f4 f5 f7 f8 f9 f15) (trip.sl.v872 c arg1 arg2 arg3 arg4 arg5 arg7 arg8 arg9 arg15 k f1 f2 f3 f4 f5 f7 f8 f9 f15) (trip.sl.v918 c arg1 arg2 arg3 arg4 arg5 arg7 arg8 arg9 arg15 k f1 f2 f3 f4 f5 f7 f8 f9 f15) (trip.sl.v942 c arg1 arg2 arg3 arg4 arg5 arg7 arg8 arg9 arg15 k f1 f2 f3 f4 f5 f7 f8 f9 f15) (trip.sl.v943 c arg1 arg2 arg3 arg4 arg5 arg7 arg8 arg9 arg15 k f1 f2 f3 f4 f5 f7 f8 f9 f15) (Gen.k0_pay123 (F := Ideal))) (ix2 n j) = cod (G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨256 + n.val, by omega⟩ n) j := by
  refine Eq.trans (b := blC (blG (Gen.k0_pay102 (F := Ideal) (View.readAt (Elt Ideal) arg9.view (Rect.unit (s := S256x256) ![0, 0] S128x128.size Gen.inb_S256x256_S128x128_0_0).toLoadRect f9)   (View.readAt (Elt Ideal) arg15.view (Rect.unit (s := S192x384) ![0, 256] S192x128.size Gen.inb_S192x384_S192x128_0_256).toLoadRect (arg15.view.writes (Elt Ideal) f15 (trip.sl.H15_3 c arg1 arg2 arg3 arg4 arg7 k f1 f2 f3 f4 f7)))   (View.readAt (Elt Ideal) arg5.view (Rect.unit (s := S192x768) ![0, 0] S192x768.size Gen.inb_S192x768_S192x768_0_0).toLoadRect f5)) (Gen.k0_pay103 (F := Ideal) (trip.sl.v242 c arg1 arg2 arg3 arg4 arg7 k f1 f2 f3 f4 f7))
    (View.readAt (Elt Ideal) arg8.view (Rect.unit (s := S2x768) ![0, 0] S1x768.size Gen.inb_S2x768_S1x768_0_0).toLoadRect f8)
    (View.readAt (Elt Ideal) arg8.view (Rect.unit (s := S2x768) ![1, 0] S1x768.size Gen.inb_S2x768_S1x768_1_0).toLoadRect f8)) (ix2 n j)) rfl ?_
  refine block_codes _ _ _ _ n _ _ (fun j => (arg8.view.read (Elt Ideal) f8) (ix2 0 j)) (fun j => (arg8.view.read (Elt Ideal) f8) (ix2 1 j))
    (fun j => q2 hE n j hn) (fun p => t2 n p hn) (fun j => ?_) (fun j => ?_) j <;>
  pointwise [View.readAt_eq_ld]

/-- The scales of the block. -/
theorem hs2 (hE : Eye (arg9.view.read (Elt Ideal) f9)) (n : Fin 128) (hn : n.val < 104) : (Gen.k0_pay128 (F := Ideal) (trip.sl.v834 c arg1 arg2 arg3 arg4 arg5 arg7 arg8 arg9 arg15 k f1 f2 f3 f4 f5 f7 f8 f9 f15) (trip.sl.v880 c arg1 arg2 arg3 arg4 arg5 arg7 arg8 arg9 arg15 k f1 f2 f3 f4 f5 f7 f8 f9 f15) (trip.sl.v926 c arg1 arg2 arg3 arg4 arg5 arg7 arg8 arg9 arg15 k f1 f2 f3 f4 f5 f7 f8 f9 f15) (trip.sl.v942 c arg1 arg2 arg3 arg4 arg5 arg7 arg8 arg9 arg15 k f1 f2 f3 f4 f5 f7 f8 f9 f15) (trip.sl.v943 c arg1 arg2 arg3 arg4 arg5 arg7 arg8 arg9 arg15 k f1 f2 f3 f4 f5 f7 f8 f9 f15) (Gen.k0_pay123 (F := Ideal))) (ix2 0 n) = HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨256 + n.val, by omega⟩ n := by
  refine Eq.trans (b := blS (blG (Gen.k0_pay102 (F := Ideal) (View.readAt (Elt Ideal) arg9.view (Rect.unit (s := S256x256) ![0, 0] S128x128.size Gen.inb_S256x256_S128x128_0_0).toLoadRect f9)   (View.readAt (Elt Ideal) arg15.view (Rect.unit (s := S192x384) ![0, 256] S192x128.size Gen.inb_S192x384_S192x128_0_256).toLoadRect (arg15.view.writes (Elt Ideal) f15 (trip.sl.H15_3 c arg1 arg2 arg3 arg4 arg7 k f1 f2 f3 f4 f7)))   (View.readAt (Elt Ideal) arg5.view (Rect.unit (s := S192x768) ![0, 0] S192x768.size Gen.inb_S192x768_S192x768_0_0).toLoadRect f5)) (Gen.k0_pay103 (F := Ideal) (trip.sl.v242 c arg1 arg2 arg3 arg4 arg7 k f1 f2 f3 f4 f7))
    (View.readAt (Elt Ideal) arg8.view (Rect.unit (s := S2x768) ![0, 0] S1x768.size Gen.inb_S2x768_S1x768_0_0).toLoadRect f8)
    (View.readAt (Elt Ideal) arg8.view (Rect.unit (s := S2x768) ![1, 0] S1x768.size Gen.inb_S2x768_S1x768_1_0).toLoadRect f8)) (ix2 0 n)) rfl ?_
  refine block_scales _ _ _ _ n _ _ (fun j => (arg8.view.read (Elt Ideal) f8) (ix2 0 j)) (fun j => (arg8.view.read (Elt Ideal) f8) (ix2 1 j))
    (fun j => q2 hE n j hn) (fun p => t2 n p hn) (fun j => ?_) (fun j => ?_) <;>
  pointwise [View.readAt_eq_ld]

end Cert.Proof.KernelIdeal

end
-- ==== Proof.KernelIdeal.S3.lean ====
/- What a trip writes: the pieces of the five results, and the masks of the scales. -/
module

public import proofs.«01_k».proof.Proof.KernelIdeal.S2a
public import proofs.«01_k».proof.Proof.KernelIdeal.S2b
public import proofs.«01_k».proof.Proof.KernelIdeal.S2c

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Tok
open Idealize.ShloMosaic.Pipeline (Dat Cfg Window BodyObligation BodyObligationLoose cellOf)

variable {c : Dev nD} {arg1 : Memref sig .tc .vmem S8x1x192x360 .bf16} {arg2 : Memref sig .tc .vmem S8x1x192x360 .fp8e4m3} {arg3 : Memref sig .tc .vmem S1x8x360 .f32} {arg4 : Memref sig .tc .vmem S192x192 .fp8e4m3} {arg5 : Memref sig .tc .vmem S192x768 .fp8e4m3} {arg6 : Memref sig .tc .vmem S192x768 .fp8e4m3} {arg7 : Memref sig .tc .vmem S8x192x128 .f32} {arg8 : Memref sig .tc .vmem S2x768 .f32} {arg9 : Memref sig .tc .vmem S256x256 .f32} {arg10 : Memref sig .tc .vmem S8x1x192x360 .bf16} {arg11 : Memref sig .tc .vmem S8x1x192x360 .fp8e4m3} {arg12 : Memref sig .tc .vmem S1x8x360 .f32} {arg13 : Memref sig .tc .vmem S8x1x360x768 .fp8e4m3} {arg14 : Memref sig .tc .vmem S1x8x360 .f32} {arg15 : Memref sig .tc .vmem S192x384 .fp8e4m3} {arg16 : Memref sig .tc .vmem S192x384 .f32} {k : Fin k0_t1_loop.trips} {f1 : Buf (Elt Ideal) (arg1.view.loc (c : Thread nD τ))} {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))}

set_option maxHeartbeats 1000000 in
/-- The second layer's output before its layer norm, in the first block of longitudes. -/
theorem fv0 (hE : Eye (arg9.view.read (Elt Ideal) f9)) (d : Fin 192) (n : Fin 128) : (trip.sl.v490 c arg1 arg2 arg3 arg4 arg5 arg6 arg7 arg8 arg9 arg15 k f1 f2 f3 f4 f5 f6 f7 f8 f9) (ix2 d n) = Fv (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) ⟨n.val, by omega⟩ n d := by
  pointwise [trip.sl.v490, trip.sl.v487, trip.sl.v489, trip.sl.v484, trip.sl.v486, Gen.k0_pay65, View.readAt_eq_ld]
  have h1 : ∀ j, _ = _ := fun j => hc0 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) hE n j
  have h2 := hs0 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) hE n
  simp only [h1, h2]
  unfold Fv
  generalize G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨n.val, by omega⟩ n = v
  generalize HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨n.val, by omega⟩ n = s
  rfl

set_option maxHeartbeats 1000000 in
/-- The stored result y, in the first block of longitudes. -/
theorem y0 (hE : Eye (arg9.view.read (Elt Ideal) f9)) (d : Fin 192) (n : Fin 128) : (trip.sl.v521 c arg1 arg2 arg3 arg4 arg5 arg6 arg7 arg8 arg9 arg15 arg16 k f1 f2 f3 f4 f5 f6 f7 f8 f9) (ix4 0 0 d n) = Y (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) ⟨n.val, by omega⟩ n d := by
  pointwise [trip.sl.v521, trip.sl.v517, trip.sl.v516, trip.sl.v514, trip.sl.v511, trip.sl.v513, trip.sl.v508, trip.sl.v510, trip.sl.v496, trip.sl.v507, trip.sl.v495, trip.sl.v506, trip.sl.v494, trip.sl.v44, trip.sl.v504, trip.sl.v32, trip.sl.v492, trip.sl.v503, trip.sl.cst_20, trip.sl.v491, trip.sl.v41, trip.sl.v501, trip.sl.cst_23, trip.sl.v499, trip.sl.v498, trip.sl.v497, View.readAt_eq_ld, trip.sl.cst_24]
  have h1 : ∀ d, _ = _ := fun d => fv0 (c := c) (arg1 := arg1) (arg2 := arg2) (arg3 := arg3) (arg4 := arg4) (arg5 := arg5) (arg6 := arg6) (arg7 := arg7) (arg8 := arg8) (arg9 := arg9) (arg15 := arg15) (k := k) (f1 := f1) (f2 := f2) (f3 := f3) (f4 := f4) (f5 := f5) (f6 := f6) (f7 := f7) (f8 := f8) (f9 := f9) hE d n
  try simp only [Nat.zero_add, Fin.eta] at h1
  try simp only [Nat.zero_add, Fin.eta]
  simp only [h1, xr0, x0, Nat.zero_add]
  unfold Y
  generalize Fv (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) ⟨n.val, by omega⟩ n = v
  rfl

/-- The stored codes of the MLP's input, in the first block of longitudes. -/
theorem m0 (d : Fin 192) (n : Fin 128) : (trip.sl.v86 c arg1 arg2 arg3 arg4 arg7 k f1 f2 f3 f4 f7) (ix4 0 0 d n) = cod (X (arg1.view.read (Elt Ideal) f1) (arg2.view.read (Elt Ideal) f2) (arg3.view.read (Elt Ideal) f3) (arg4.view.read (Elt Ideal) f4) (arg7.view.read (Elt Ideal) f7) (ml k) ⟨n.val, by omega⟩ n) d := by
  pointwise [trip.sl.v86, View.readAt_eq_ld]
  try simp only [Nat.zero_add, Fin.eta]
  simp only [c0, Nat.zero_add]

/-- The scales of the MLP's input, the same in all eight rows of the store, in the first block of longitudes. -/
theorem ms0 (a : Fin 8) (n : Fin 128) : (trip.sl.v94 c arg1 arg2 arg3 arg4 arg7 k f1 f2 f3 f4 f7) (ix3 0 a n) = scl (X (arg1.view.read (Elt Ideal) f1) (arg2.view.read (Elt Ideal) f2) (arg3.view.read (Elt Ideal) f3) (arg4.view.read (Elt Ideal) f4) (arg7.view.read (Elt Ideal) f7) (ml k) ⟨n.val, by omega⟩ n) := by
  pointwise [trip.sl.v94, trip.sl.v89, trip.sl.v88, View.readAt_eq_ld]
  try simp only [Nat.zero_add, Fin.eta]
  simp only [s0, Nat.zero_add]

/-- The stored codes of the hidden layer, in the first block of longitudes. -/
theorem h0 (hE : Eye (arg9.view.read (Elt Ideal) f9)) (n : Fin 128) (j : Fin 768) : (Gen.k0_pay62 (F := Ideal) (trip.sl.v316 c arg1 arg2 arg3 arg4 arg5 arg7 arg8 arg9 arg15 k f1 f2 f3 f4 f5 f7 f8 f9) (trip.sl.v362 c arg1 arg2 arg3 arg4 arg5 arg7 arg8 arg9 arg15 k f1 f2 f3 f4 f5 f7 f8 f9) (trip.sl.v408 c arg1 arg2 arg3 arg4 arg5 arg7 arg8 arg9 arg15 k f1 f2 f3 f4 f5 f7 f8 f9) (trip.sl.v436 c arg1 arg2 arg3 arg4 arg5 arg7 arg8 arg9 arg15 k f1 f2 f3 f4 f5 f7 f8 f9) (trip.sl.v441 c arg1 arg2 arg3 arg4 arg5 arg7 arg8 arg9 arg15 k f1 f2 f3 f4 f5 f7 f8 f9) (trip.sl.v443 c arg1 arg2 arg3 arg4 arg5 arg7 arg8 arg9 arg15 k f1 f2 f3 f4 f5 f7 f8 f9) (trip.sl.cst_24 (F := Ideal))) (ix4 0 0 n j) = cod (G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨n.val, by omega⟩ n) j := by
  have h1 := hc0 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) hE n j
  pointwise [Gen.k0_pay62]
  try simp only [Nat.zero_add, Fin.eta]
  exact h1

/-- The scales of the hidden layer, the same in all eight rows of the store, in the first block of longitudes. -/
theorem hz0 (hE : Eye (arg9.view.read (Elt Ideal) f9)) (a : Fin 8) (n : Fin 128) : (Gen.k0_pay63 (F := Ideal) (trip.sl.v324 c arg1 arg2 arg3 arg4 arg5 arg7 arg8 arg9 arg15 k f1 f2 f3 f4 f5 f7 f8 f9) (trip.sl.v370 c arg1 arg2 arg3 arg4 arg5 arg7 arg8 arg9 arg15 k f1 f2 f3 f4 f5 f7 f8 f9) (trip.sl.v416 c arg1 arg2 arg3 arg4 arg5 arg7 arg8 arg9 arg15 k f1 f2 f3 f4 f5 f7 f8 f9) (trip.sl.v439 c arg1 arg2 arg3 arg4 arg5 arg7 arg8 arg9 arg15 k f1 f2 f3 f4 f5 f7 f8 f9) (trip.sl.v441 c arg1 arg2 arg3 arg4 arg5 arg7 arg8 arg9 arg15 k f1 f2 f3 f4 f5 f7 f8 f9) (trip.sl.v443 c arg1 arg2 arg3 arg4 arg5 arg7 arg8 arg9 arg15 k f1 f2 f3 f4 f5 f7 f8 f9) (trip.sl.cst_24 (F := Ideal))) (ix3 0 a n) = HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨n.val, by omega⟩ n := by
  have h1 := hs0 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) hE n
  pointwise [Gen.k0_pay63, View.readAt_eq_ld]
  try simp only [Nat.zero_add, Fin.eta]
  exact h1

set_option maxHeartbeats 1000000 in
/-- The second layer's output before its layer norm, in the second block of longitudes. -/
theorem fv1 (hE : Eye (arg9.view.read (Elt Ideal) f9)) (d : Fin 192) (n : Fin 128) : (trip.sl.v744 c arg1 arg2 arg3 arg4 arg5 arg6 arg7 arg8 arg9 arg15 k f1 f2 f3 f4 f5 f6 f7 f8 f9) (ix2 d n) = Fv (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) ⟨128 + n.val, by omega⟩ n d := by
  pointwise [trip.sl.v744, trip.sl.v489, trip.sl.v741, trip.sl.v486, trip.sl.v738, trip.sl.v736, trip.sl.v737, trip.sl.cst_321, trip.sl.v717, trip.sl.v735, trip.sl.v720, Gen.k0_pay99, View.readAt_eq_ld]
  have h1 : ∀ j, _ = _ := fun j => hc1 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) hE n j
  have h2 := hs1 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) hE n
  simp only [h1, h2]
  unfold Fv
  generalize G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨128 + n.val, by omega⟩ n = v
  generalize HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨128 + n.val, by omega⟩ n = s
  rfl

set_option maxHeartbeats 1000000 in
/-- The stored result y, in the second block of longitudes. -/
theorem y1 (hE : Eye (arg9.view.read (Elt Ideal) f9)) (d : Fin 192) (n : Fin 128) : (Gen.k0_pay101 (F := Ideal) (trip.sl.v771 c arg1 arg2 arg3 arg4 arg5 arg6 arg7 arg8 arg9 arg15 arg16 k f1 f2 f3 f4 f5 f6 f7 f8 f9)) (ix4 0 0 d n) = Y (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) ⟨128 + n.val, by omega⟩ n d := by
  pointwise [Gen.k0_pay101, trip.sl.v771, trip.sl.v770, trip.sl.v768, trip.sl.v513, trip.sl.v765, trip.sl.v510, trip.sl.v762, trip.sl.v750, trip.sl.v761, trip.sl.v749, trip.sl.v760, trip.sl.v748, trip.sl.v44, trip.sl.v758, trip.sl.v32, trip.sl.v746, trip.sl.v757, trip.sl.cst_20, trip.sl.v745, trip.sl.v41, trip.sl.v755, trip.sl.cst_23, trip.sl.v753, trip.sl.v752, trip.sl.v751, View.readAt_eq_ld, trip.sl.cst_24]
  have h1 : ∀ d, _ = _ := fun d => fv1 (c := c) (arg1 := arg1) (arg2 := arg2) (arg3 := arg3) (arg4 := arg4) (arg5 := arg5) (arg6 := arg6) (arg7 := arg7) (arg8 := arg8) (arg9 := arg9) (arg15 := arg15) (k := k) (f1 := f1) (f2 := f2) (f3 := f3) (f4 := f4) (f5 := f5) (f6 := f6) (f7 := f7) (f8 := f8) (f9 := f9) hE d n
  try simp only [Nat.zero_add, Fin.eta] at h1
  try simp only [Nat.zero_add, Fin.eta]
  simp only [h1, xr1, x1, Nat.zero_add]
  unfold Y
  generalize Fv (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) ⟨128 + n.val, by omega⟩ n = v
  rfl

/-- The stored codes of the MLP's input, in the second block of longitudes. -/
theorem m1 (d : Fin 192) (n : Fin 128) : (trip.sl.v170 c arg1 arg2 arg3 arg4 arg7 k f1 f2 f3 f4 f7) (ix4 0 0 d n) = cod (X (arg1.view.read (Elt Ideal) f1) (arg2.view.read (Elt Ideal) f2) (arg3.view.read (Elt Ideal) f3) (arg4.view.read (Elt Ideal) f4) (arg7.view.read (Elt Ideal) f7) (ml k) ⟨128 + n.val, by omega⟩ n) d := by
  pointwise [trip.sl.v170, View.readAt_eq_ld]
  try simp only [Nat.zero_add, Fin.eta]
  simp only [c1, Nat.zero_add]

/-- The scales of the MLP's input, the same in all eight rows of the store, in the second block of longitudes. -/
theorem ms1 (a : Fin 8) (n : Fin 128) : (trip.sl.v178 c arg1 arg2 arg3 arg4 arg7 k f1 f2 f3 f4 f7) (ix3 0 a n) = scl (X (arg1.view.read (Elt Ideal) f1) (arg2.view.read (Elt Ideal) f2) (arg3.view.read (Elt Ideal) f3) (arg4.view.read (Elt Ideal) f4) (arg7.view.read (Elt Ideal) f7) (ml k) ⟨128 + n.val, by omega⟩ n) := by
  pointwise [trip.sl.v178, trip.sl.v173, trip.sl.v172, View.readAt_eq_ld]
  try simp only [Nat.zero_add, Fin.eta]
  simp only [s1, Nat.zero_add]

/-- The stored codes of the hidden layer, in the second block of longitudes. -/
theorem h1 (hE : Eye (arg9.view.read (Elt Ideal) f9)) (n : Fin 128) (j : Fin 768) : (Gen.k0_pay96 (F := Ideal) (trip.sl.v570 c arg1 arg2 arg3 arg4 arg5 arg7 arg8 arg9 arg15 k f1 f2 f3 f4 f5 f7 f8 f9) (trip.sl.v616 c arg1 arg2 arg3 arg4 arg5 arg7 arg8 arg9 arg15 k f1 f2 f3 f4 f5 f7 f8 f9) (trip.sl.v662 c arg1 arg2 arg3 arg4 arg5 arg7 arg8 arg9 arg15 k f1 f2 f3 f4 f5 f7 f8 f9) (trip.sl.v690 c arg1 arg2 arg3 arg4 arg5 arg7 arg8 arg9 arg15 k f1 f2 f3 f4 f5 f7 f8 f9) (trip.sl.v693 c arg1 arg2 arg3 arg4 arg5 arg7 arg8 arg9 arg15 k f1 f2 f3 f4 f5 f7 f8 f9) (Gen.k0_pay92 (F := Ideal))) (ix4 0 0 n j) = cod (G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨128 + n.val, by omega⟩ n) j := by
  have h1 := hc1 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) hE n j
  pointwise [Gen.k0_pay96]
  try simp only [Nat.zero_add, Fin.eta]
  exact h1

/-- The scales of the hidden layer, the same in all eight rows of the store, in the second block of longitudes. -/
theorem hz1 (hE : Eye (arg9.view.read (Elt Ideal) f9)) (a : Fin 8) (n : Fin 128) : (Gen.k0_pay97 (F := Ideal) (trip.sl.v578 c arg1 arg2 arg3 arg4 arg5 arg7 arg8 arg9 arg15 k f1 f2 f3 f4 f5 f7 f8 f9) (trip.sl.v624 c arg1 arg2 arg3 arg4 arg5 arg7 arg8 arg9 arg15 k f1 f2 f3 f4 f5 f7 f8 f9) (trip.sl.v670 c arg1 arg2 arg3 arg4 arg5 arg7 arg8 arg9 arg15 k f1 f2 f3 f4 f5 f7 f8 f9) (trip.sl.v693 c arg1 arg2 arg3 arg4 arg5 arg7 arg8 arg9 arg15 k f1 f2 f3 f4 f5 f7 f8 f9) (Gen.k0_pay92 (F := Ideal))) (ix3 0 a n) = HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨128 + n.val, by omega⟩ n := by
  have h1 := hs1 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) hE n
  pointwise [Gen.k0_pay97, View.readAt_eq_ld]
  try simp only [Nat.zero_add, Fin.eta]
  exact h1

set_option maxHeartbeats 1000000 in
/-- The second layer's output before its layer norm, in the third block of longitudes. -/
theorem fv2 (hE : Eye (arg9.view.read (Elt Ideal) f9)) (d : Fin 192) (n : Fin 128) (hn : n.val < 104) : (trip.sl.v1002 c arg1 arg2 arg3 arg4 arg5 arg6 arg7 arg8 arg9 arg15 k f1 f2 f3 f4 f5 f6 f7 f8 f9 f15) (ix2 d n) = Fv (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) ⟨256 + n.val, by omega⟩ n d := by
  pointwise [trip.sl.v1002, trip.sl.v489, trip.sl.v999, trip.sl.v486, trip.sl.v996, trip.sl.v994, trip.sl.v995, trip.sl.cst_321, trip.sl.v973, trip.sl.v993, trip.sl.v976, View.readAt_eq_ld]
  have h1 : ∀ j, _ = _ := fun j => hc2 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) (f15 := f15) hE n hn j
  have h2 := hs2 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) (f15 := f15) hE n hn
  simp only [h1, h2]
  unfold Fv
  generalize G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨256 + n.val, by omega⟩ n = v
  generalize HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨256 + n.val, by omega⟩ n = s
  rfl

set_option maxHeartbeats 1000000 in
/-- The stored result y, in the third block of longitudes. -/
theorem y2 (hE : Eye (arg9.view.read (Elt Ideal) f9)) (d : Fin 192) (n : Fin 104) : (Gen.k0_pay2 (F := Ideal) (trip.sl.v1023 c arg1 arg2 arg3 arg4 arg5 arg6 arg7 arg8 arg9 arg15 k f1 f2 f3 f4 f5 f6 f7 f8 f9 f15) (trip.sl.v513 c arg7 f7) (trip.sl.v1027 c arg1 arg2 arg3 arg4 arg7 arg16 k f1 f2 f3 f4 f7)) (ix4 0 0 d n) = Y (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) ⟨256 + n.val, by omega⟩ ⟨n.val, by omega⟩ d := by
  pointwise [Gen.k0_pay2, trip.sl.v1023, trip.sl.v513, trip.sl.v1020, trip.sl.v510, trip.sl.v1008, trip.sl.v1019, trip.sl.v1007, trip.sl.v1018, trip.sl.v1006, trip.sl.v1016, trip.sl.v44, trip.sl.v1004, trip.sl.v32, trip.sl.v1015, trip.sl.v1003, trip.sl.cst_20, trip.sl.v1013, trip.sl.v41, trip.sl.v1011, trip.sl.cst_23, trip.sl.v1010, trip.sl.v1009, View.readAt_eq_ld, trip.sl.cst_24]
  have h1 : ∀ d, _ = _ := fun d => fv2 (c := c) (arg1 := arg1) (arg2 := arg2) (arg3 := arg3) (arg4 := arg4) (arg5 := arg5) (arg6 := arg6) (arg7 := arg7) (arg8 := arg8) (arg9 := arg9) (arg15 := arg15) (k := k) (f1 := f1) (f2 := f2) (f3 := f3) (f4 := f4) (f5 := f5) (f6 := f6) (f7 := f7) (f8 := f8) (f9 := f9) (f15 := f15) hE d ⟨n.val, by omega⟩ n.isLt
  try simp only [Nat.zero_add, Fin.eta] at h1
  try simp only [Nat.zero_add, Fin.eta]
  simp only [h1, xr2, x2, Nat.zero_add]
  unfold Y
  generalize Fv (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) ⟨256 + n.val, by omega⟩ ⟨n.val, by omega⟩ = v
  rfl

/-- The stored codes of the MLP's input, in the third block of longitudes. -/
theorem m2 (d : Fin 192) (n : Fin 104) : (trip.sl.v258 c arg1 arg2 arg3 arg4 arg7 k f1 f2 f3 f4 f7) (ix4 0 0 d n) = cod (X (arg1.view.read (Elt Ideal) f1) (arg2.view.read (Elt Ideal) f2) (arg3.view.read (Elt Ideal) f3) (arg4.view.read (Elt Ideal) f4) (arg7.view.read (Elt Ideal) f7) (ml k) ⟨256 + n.val, by omega⟩ ⟨n.val, by omega⟩) d := by
  pointwise [trip.sl.v258, View.readAt_eq_ld]
  try simp only [Nat.zero_add, Fin.eta]
  simp only [c2, Nat.zero_add]

/-- The scales of the MLP's input, the same in all eight rows of the store, in the third block of longitudes. -/
theorem ms2 (a : Fin 8) (n : Fin 104) : (trip.sl.v266 c arg1 arg2 arg3 arg4 arg7 k f1 f2 f3 f4 f7) (ix3 0 a n) = scl (X (arg1.view.read (Elt Ideal) f1) (arg2.view.read (Elt Ideal) f2) (arg3.view.read (Elt Ideal) f3) (arg4.view.read (Elt Ideal) f4) (arg7.view.read (Elt Ideal) f7) (ml k) ⟨256 + n.val, by omega⟩ ⟨n.val, by omega⟩) := by
  pointwise [trip.sl.v266, trip.sl.v261, trip.sl.v260, View.readAt_eq_ld]
  try simp only [Nat.zero_add, Fin.eta]
  simp only [s2, Nat.zero_add]

/-- The stored codes of the hidden layer, in the third block of longitudes. -/
theorem h2 (hE : Eye (arg9.view.read (Elt Ideal) f9)) (n : Fin 104) (j : Fin 768) : (Gen.k0_pay129 (F := Ideal) (trip.sl.v826 c arg1 arg2 arg3 arg4 arg5 arg7 arg8 arg9 arg15 k f1 f2 f3 f4 f5 f7 f8 f9 f15) (trip.sl.v872 c arg1 arg2 arg3 arg4 arg5 arg7 arg8 arg9 arg15 k f1 f2 f3 f4 f5 f7 f8 f9 f15) (trip.sl.v918 c arg1 arg2 arg3 arg4 arg5 arg7 arg8 arg9 arg15 k f1 f2 f3 f4 f5 f7 f8 f9 f15) (trip.sl.v942 c arg1 arg2 arg3 arg4 arg5 arg7 arg8 arg9 arg15 k f1 f2 f3 f4 f5 f7 f8 f9 f15) (trip.sl.v943 c arg1 arg2 arg3 arg4 arg5 arg7 arg8 arg9 arg15 k f1 f2 f3 f4 f5 f7 f8 f9 f15) (Gen.k0_pay123 (F := Ideal))) (ix4 0 0 n j) = cod (G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨256 + n.val, by omega⟩ ⟨n.val, by omega⟩) j := by
  have h1 := hc2 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) (f15 := f15) hE ⟨n.val, by omega⟩ n.isLt j
  pointwise [Gen.k0_pay129]
  try simp only [Nat.zero_add, Fin.eta]
  exact h1

/-- The scales of the hidden layer, the same in all eight rows of the store, in the third block of longitudes. -/
theorem hz2 (hE : Eye (arg9.view.read (Elt Ideal) f9)) (a : Fin 8) (n : Fin 104) : (trip.sl.v990 c arg1 arg2 arg3 arg4 arg5 arg7 arg8 arg9 arg15 k f1 f2 f3 f4 f5 f7 f8 f9 f15) (ix3 0 a n) = HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) ⟨256 + n.val, by omega⟩ ⟨n.val, by omega⟩ := by
  have h1 := hs2 (c := c) (arg1 := arg1) (arg2 := arg2) (arg3 := arg3) (arg4 := arg4) (arg5 := arg5) (arg7 := arg7) (arg8 := arg8) (arg9 := arg9) (arg15 := arg15) (k := k) (f1 := f1) (f2 := f2) (f3 := f3) (f4 := f4) (f5 := f5) (f7 := f7) (f8 := f8) (f9 := f9) (f15 := f15) hE ⟨n.val, by omega⟩ n.isLt
  pointwise [trip.sl.v990, trip.sl.v985, Gen.k0_pay130, View.readAt_eq_ld]
  try simp only [Nat.zero_add, Fin.eta]
  exact h1

/-! ## The masks: the trip's level of eight -/

/-- Comparing a row's number with the trip's level tells whether the row is the level's. -/
theorem level_mask (k a : Fin 8) : IntOp.cmpi CmpIPredicate.eq (BitVec.ofNat 32 a.val) (BitVec.ofNat 32 k.val) = if a = k then 1#1 else 0#1 := by
  revert k a; decide +kernel

/-- The mask of the input's scales, first and second block: on in the trip's row only. -/
theorem mask_v95 (k : Fin k0_t1_loop.trips) (a : Fin 8) (n : Fin 128) : (trip.sl.v95 k) (ix3 0 a n) = if a = ml k then 1#1 else 0#1 := by
  pointwise [trip.sl.v95, trip.sl.v16, trip.sl.v14, trip.sl.v15, View.readAt_eq_ld]
  rw [lvl]
  exact level_mask (ml k) a

/-- The mask of the input's scales, third block: on in the trip's row only. -/
theorem mask_v267 (k : Fin k0_t1_loop.trips) (a : Fin 8) (n : Fin 104) : (trip.sl.v267 k) (ix3 0 a n) = if a = ml k then 1#1 else 0#1 := by
  pointwise [trip.sl.v267, trip.sl.v184, trip.sl.v182, trip.sl.v183, View.readAt_eq_ld]
  rw [lvl]
  exact level_mask (ml k) a

/-- The mask of the hidden layer's scales, first block: on in the trip's row only. -/
theorem mask_p64 (k : Fin k0_t1_loop.trips) (a : Fin 8) (n : Fin 128) : (Gen.k0_pay64 (trip.sl.v5 k)) (ix3 0 a n) = if a = ml k then 1#1 else 0#1 := by
  pointwise [Gen.k0_pay64, View.readAt_eq_ld]
  rw [lvl]
  exact level_mask (ml k) a

/-- The mask of the hidden layer's scales, second block: on in the trip's row only. -/
theorem mask_p98 (k : Fin k0_t1_loop.trips) (a : Fin 8) (n : Fin 128) : (Gen.k0_pay98 (trip.sl.v5 k)) (ix3 0 a n) = if a = ml k then 1#1 else 0#1 := by
  pointwise [Gen.k0_pay98, View.readAt_eq_ld]
  rw [lvl]
  exact level_mask (ml k) a

/-- The mask of the hidden layer's scales, third block: on in the trip's row only. -/
theorem mask_v991 (k : Fin k0_t1_loop.trips) (a : Fin 8) (n : Fin 104) : (trip.sl.v991 k) (ix3 0 a n) = if a = ml k then 1#1 else 0#1 := by
  pointwise [trip.sl.v991, trip.sl.v987, Gen.k0_pay131, View.readAt_eq_ld]
  rw [lvl]
  exact level_mask (ml k) a

end Cert.Proof.KernelIdeal

end
-- ==== Proof.KernelIdeal.New.lean ====
/- What a trip leaves in the five results: its own level new, the others as they were. -/
module

public import proofs.«01_k».proof.Proof.KernelIdeal.S3
public import Idealize.ShloMosaic.Lib.WritesUnit

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Tok
open Idealize.ShloMosaic.Pipeline (Dat Cfg Window BodyObligation BodyObligationLoose cellOf)

/-- The lane a longitude's columns are read at. -/
def lane (n : Fin 360) : Fin 128 := ⟨n.val % 128, Nat.mod_lt _ (by decide)⟩

/-- What one block of the call writes: y. -/
def K10 (x1 : Vec Ideal S8x1x192x360 .bf16) (x2 : Vec Ideal S8x1x192x360 .fp8e4m3) (x3 : Vec Ideal S1x8x360 .f32) (x4 : Vec Ideal S192x192 .fp8e4m3) (x5 : Vec Ideal S192x768 .fp8e4m3) (x6 : Vec Ideal S192x768 .fp8e4m3) (x7 : Vec Ideal S8x192x128 .f32) (x8 : Vec Ideal S2x768 .f32) (x9 : Vec Ideal S256x256 .f32) : Vec Ideal S8x1x192x360 .bf16 := fun j => Y x1 x2 x3 x4 x5 x6 x7 x8 (j 0) (j 3) (lane (j 3)) (j 2)

/-- What one block of the call writes: the codes of the MLP's input. -/
def K11 (x1 : Vec Ideal S8x1x192x360 .bf16) (x2 : Vec Ideal S8x1x192x360 .fp8e4m3) (x3 : Vec Ideal S1x8x360 .f32) (x4 : Vec Ideal S192x192 .fp8e4m3) (x5 : Vec Ideal S192x768 .fp8e4m3) (x6 : Vec Ideal S192x768 .fp8e4m3) (x7 : Vec Ideal S8x192x128 .f32) (x8 : Vec Ideal S2x768 .f32) (x9 : Vec Ideal S256x256 .f32) : Vec Ideal S8x1x192x360 .fp8e4m3 := fun j => cod (X x1 x2 x3 x4 x7 (j 0) (j 3) (lane (j 3))) (j 2)

/-- What one block of the call writes: the scales of the MLP's input. -/
def K12 (x1 : Vec Ideal S8x1x192x360 .bf16) (x2 : Vec Ideal S8x1x192x360 .fp8e4m3) (x3 : Vec Ideal S1x8x360 .f32) (x4 : Vec Ideal S192x192 .fp8e4m3) (x5 : Vec Ideal S192x768 .fp8e4m3) (x6 : Vec Ideal S192x768 .fp8e4m3) (x7 : Vec Ideal S8x192x128 .f32) (x8 : Vec Ideal S2x768 .f32) (x9 : Vec Ideal S256x256 .f32) : Vec Ideal S1x8x360 .f32 := fun j => scl (X x1 x2 x3 x4 x7 (j 1) (j 2) (lane (j 2)))

/-- What one block of the call writes: the hidden codes. -/
def K13 (x1 : Vec Ideal S8x1x192x360 .bf16) (x2 : Vec Ideal S8x1x192x360 .fp8e4m3) (x3 : Vec Ideal S1x8x360 .f32) (x4 : Vec Ideal S192x192 .fp8e4m3) (x5 : Vec Ideal S192x768 .fp8e4m3) (x6 : Vec Ideal S192x768 .fp8e4m3) (x7 : Vec Ideal S8x192x128 .f32) (x8 : Vec Ideal S2x768 .f32) (x9 : Vec Ideal S256x256 .f32) : Vec Ideal S8x1x360x768 .fp8e4m3 := fun j => cod (G x1 x2 x3 x4 x5 x7 x8 (j 0) (j 2) (lane (j 2))) (j 3)

/-- What one block of the call writes: the hidden scales. -/
def K14 (x1 : Vec Ideal S8x1x192x360 .bf16) (x2 : Vec Ideal S8x1x192x360 .fp8e4m3) (x3 : Vec Ideal S1x8x360 .f32) (x4 : Vec Ideal S192x192 .fp8e4m3) (x5 : Vec Ideal S192x768 .fp8e4m3) (x6 : Vec Ideal S192x768 .fp8e4m3) (x7 : Vec Ideal S8x192x128 .f32) (x8 : Vec Ideal S2x768 .f32) (x9 : Vec Ideal S256x256 .f32) : Vec Ideal S1x8x360 .f32 := fun j => HS x1 x2 x3 x4 x5 x7 x8 (j 1) (j 2) (lane (j 2))

/-- A result of three pieces a trip writes, read back: the trip's level is new, the others are as they were. -/
theorem rdW {κ : Kind} {sp : Space} {e : EltTy} (v : View sig κ sp S8x1x192x360 e) (f : v.ty.Contents (Elt Ideal)) (k : Fin k0_t1_loop.trips)
    (h0 : ∀ a, k0_off2 k a + S1x1x192x128.size a ≤ S8x1x192x360.size a) (h1 : ∀ a, k0_off3 k a + S1x1x192x128.size a ≤ S8x1x192x360.size a) (h2 : ∀ a, k0_off4 k a + S1x1x192x104.size a ≤ S8x1x192x360.size a)
    (w0 w1 : Vec Ideal S1x1x192x128 e) (w2 : Vec Ideal S1x1x192x104 e) (l : Fin 8) (d : Fin 192) (n : Fin 360) :
    v.read (Elt Ideal) (v.writes (Elt Ideal) f [(⟨Rect.unit (s := S8x1x192x360) (k0_off4 k) S1x1x192x104.size h2, w2⟩ : View.Piece (Elt Ideal) S8x1x192x360 e), (⟨Rect.unit (s := S8x1x192x360) (k0_off3 k) S1x1x192x128.size h1, w1⟩ : View.Piece (Elt Ideal) S8x1x192x360 e), (⟨Rect.unit (s := S8x1x192x360) (k0_off2 k) S1x1x192x128.size h0, w0⟩ : View.Piece (Elt Ideal) S8x1x192x360 e)]) (ix4 l 0 d n)
      = if l = ml k then (if h : n.val < 128 then w0 (ix4 0 0 d ⟨n.val, h⟩) else if h' : n.val < 256 then w1 (ix4 0 0 d ⟨n.val - 128, by omega⟩) else w2 (ix4 0 0 d ⟨n.val - 256, by omega⟩))
        else v.read (Elt Ideal) f (ix4 l 0 d n) := by
  have e0 : ∀ q : Fin 4, True := fun _ => trivial
  by_cases hl : l = ml k
  · rw [if_pos hl]
    by_cases h : n.val < 128
    · rw [dif_pos h]
      refine (View.read_writes_cons_unit_of_not_mem v f h2 w2 _ _ rfl 3 (Or.inl (by show n.val < k0_off4 k 3; rw [off4_3]; omega))).trans ?_
      refine (View.read_writes_cons_unit_of_not_mem v f h1 w1 _ _ rfl 3 (Or.inl (by show n.val < k0_off3 k 3; rw [off3_3]; omega))).trans ?_
      exact View.read_writes_cons_unit_of_mem v f h0 w0 _ _ _ rfl fun a => by
            fin_cases a
            · show l.val = k0_off2 k 0 + 0; rw [off2_0]; exact congrArg Fin.val hl
            · show 0 = k0_off2 k 1 + 0; rw [off2_1]; try omega
            · show d.val = k0_off2 k 2 + d.val; rw [off2_2]; try omega
            · show n.val = k0_off2 k 3 + n.val; rw [off2_3]; try omega
    · rw [dif_neg h]
      by_cases h' : n.val < 256
      · rw [dif_pos h']
        refine (View.read_writes_cons_unit_of_not_mem v f h2 w2 _ _ rfl 3 (Or.inl (by show n.val < k0_off4 k 3; rw [off4_3]; omega))).trans ?_
        exact View.read_writes_cons_unit_of_mem v f h1 w1 _ _ _ rfl fun a => by
            fin_cases a
            · show l.val = k0_off3 k 0 + 0; rw [off3_0]; exact congrArg Fin.val hl
            · show 0 = k0_off3 k 1 + 0; rw [off3_1]; try omega
            · show d.val = k0_off3 k 2 + d.val; rw [off3_2]; try omega
            · show n.val = k0_off3 k 3 + (n.val - 128); rw [off3_3]; try omega
      · rw [dif_neg h']
        exact View.read_writes_cons_unit_of_mem v f h2 w2 _ _ _ rfl fun a => by
            fin_cases a
            · show l.val = k0_off4 k 0 + 0; rw [off4_0]; exact congrArg Fin.val hl
            · show 0 = k0_off4 k 1 + 0; rw [off4_1]; try omega
            · show d.val = k0_off4 k 2 + d.val; rw [off4_2]; try omega
            · show n.val = k0_off4 k 3 + (n.val - 256); rw [off4_3]; try omega
  · rw [if_neg hl]
    have hl' : l.val ≠ k.val := fun h => hl (Fin.ext h)
    refine (View.read_writes_cons_unit_of_not_mem v f h2 w2 _ _ rfl 0 (by show l.val < k0_off4 k 0 ∨ k0_off4 k 0 + 1 ≤ l.val; rw [off4_0]; omega)).trans ?_
    refine (View.read_writes_cons_unit_of_not_mem v f h1 w1 _ _ rfl 0 (by show l.val < k0_off3 k 0 ∨ k0_off3 k 0 + 1 ≤ l.val; rw [off3_0]; omega)).trans ?_
    refine (View.read_writes_cons_unit_of_not_mem v f h0 w0 _ _ rfl 0 (by show l.val < k0_off2 k 0 ∨ k0_off2 k 0 + 1 ≤ l.val; rw [off2_0]; omega)).trans ?_
    rfl

/-- A result of three pieces a trip writes, read back: the trip's level is new, the others are as they were. -/
theorem rdH {κ : Kind} {sp : Space} {e : EltTy} (v : View sig κ sp S8x1x360x768 e) (f : v.ty.Contents (Elt Ideal)) (k : Fin k0_t1_loop.trips)
    (h0 : ∀ a, k0_off5 k a + S1x1x128x768.size a ≤ S8x1x360x768.size a) (h1 : ∀ a, k0_off6 k a + S1x1x128x768.size a ≤ S8x1x360x768.size a) (h2 : ∀ a, k0_off7 k a + S1x1x104x768.size a ≤ S8x1x360x768.size a)
    (w0 w1 : Vec Ideal S1x1x128x768 e) (w2 : Vec Ideal S1x1x104x768 e) (l : Fin 8) (d : Fin 768) (n : Fin 360) :
    v.read (Elt Ideal) (v.writes (Elt Ideal) f [(⟨Rect.unit (s := S8x1x360x768) (k0_off7 k) S1x1x104x768.size h2, w2⟩ : View.Piece (Elt Ideal) S8x1x360x768 e), (⟨Rect.unit (s := S8x1x360x768) (k0_off6 k) S1x1x128x768.size h1, w1⟩ : View.Piece (Elt Ideal) S8x1x360x768 e), (⟨Rect.unit (s := S8x1x360x768) (k0_off5 k) S1x1x128x768.size h0, w0⟩ : View.Piece (Elt Ideal) S8x1x360x768 e)]) (ix4 l 0 n d)
      = if l = ml k then (if h : n.val < 128 then w0 (ix4 0 0 ⟨n.val, h⟩ d) else if h' : n.val < 256 then w1 (ix4 0 0 ⟨n.val - 128, by omega⟩ d) else w2 (ix4 0 0 ⟨n.val - 256, by omega⟩ d))
        else v.read (Elt Ideal) f (ix4 l 0 n d) := by
  have e0 : ∀ q : Fin 4, True := fun _ => trivial
  by_cases hl : l = ml k
  · rw [if_pos hl]
    by_cases h : n.val < 128
    · rw [dif_pos h]
      refine (View.read_writes_cons_unit_of_not_mem v f h2 w2 _ _ rfl 2 (Or.inl (by show n.val < k0_off7 k 2; rw [off7_2]; omega))).trans ?_
      refine (View.read_writes_cons_unit_of_not_mem v f h1 w1 _ _ rfl 2 (Or.inl (by show n.val < k0_off6 k 2; rw [off6_2]; omega))).trans ?_
      exact View.read_writes_cons_unit_of_mem v f h0 w0 _ _ _ rfl fun a => by
            fin_cases a
            · show l.val = k0_off5 k 0 + 0; rw [off5_0]; exact congrArg Fin.val hl
            · show 0 = k0_off5 k 1 + 0; rw [off5_1]; try omega
            · show n.val = k0_off5 k 2 + n.val; rw [off5_2]; try omega
            · show d.val = k0_off5 k 3 + d.val; rw [off5_3]; try omega
    · rw [dif_neg h]
      by_cases h' : n.val < 256
      · rw [dif_pos h']
        refine (View.read_writes_cons_unit_of_not_mem v f h2 w2 _ _ rfl 2 (Or.inl (by show n.val < k0_off7 k 2; rw [off7_2]; omega))).trans ?_
        exact View.read_writes_cons_unit_of_mem v f h1 w1 _ _ _ rfl fun a => by
            fin_cases a
            · show l.val = k0_off6 k 0 + 0; rw [off6_0]; exact congrArg Fin.val hl
            · show 0 = k0_off6 k 1 + 0; rw [off6_1]; try omega
            · show n.val = k0_off6 k 2 + (n.val - 128); rw [off6_2]; try omega
            · show d.val = k0_off6 k 3 + d.val; rw [off6_3]; try omega
      · rw [dif_neg h']
        exact View.read_writes_cons_unit_of_mem v f h2 w2 _ _ _ rfl fun a => by
            fin_cases a
            · show l.val = k0_off7 k 0 + 0; rw [off7_0]; exact congrArg Fin.val hl
            · show 0 = k0_off7 k 1 + 0; rw [off7_1]; try omega
            · show n.val = k0_off7 k 2 + (n.val - 256); rw [off7_2]; try omega
            · show d.val = k0_off7 k 3 + d.val; rw [off7_3]; try omega
  · rw [if_neg hl]
    have hl' : l.val ≠ k.val := fun h => hl (Fin.ext h)
    refine (View.read_writes_cons_unit_of_not_mem v f h2 w2 _ _ rfl 0 (by show l.val < k0_off7 k 0 ∨ k0_off7 k 0 + 1 ≤ l.val; rw [off7_0]; omega)).trans ?_
    refine (View.read_writes_cons_unit_of_not_mem v f h1 w1 _ _ rfl 0 (by show l.val < k0_off6 k 0 ∨ k0_off6 k 0 + 1 ≤ l.val; rw [off6_0]; omega)).trans ?_
    refine (View.read_writes_cons_unit_of_not_mem v f h0 w0 _ _ rfl 0 (by show l.val < k0_off5 k 0 ∨ k0_off5 k 0 + 1 ≤ l.val; rw [off5_0]; omega)).trans ?_
    rfl

/-- A masked write of 128 longitudes at one level, read back. -/
theorem rdM128 (arg : Memref sig .tc .vmem S1x8x360 .f32) (f : arg.view.ty.Contents (Elt Ideal)) (k : Fin k0_t1_loop.trips) (c : ℕ)
    (inb : ∀ a, (![0, 0, c] : Fin 3 → ℕ) a + S1x8x128.size a ≤ S1x8x360.size a) (w : Vec Ideal S1x8x128 .f32) (m : IVec S1x8x128 1)
    (hm : ∀ a n, m (ix3 0 a n) = if a = ml k then 1#1 else 0#1) (l : Fin 8) (n : Fin 360) :
    arg.view.read (Elt Ideal) (View.write (Elt Ideal) (arg.access (Rect.unit (s := S1x8x360) ![0, 0, c] S1x8x128.size inb)) f w m.on) (ix3 0 l n)
      = if h : l = ml k ∧ c ≤ n.val ∧ n.val - c < 128 then w (ix3 0 l ⟨n.val - c, h.2.2⟩) else arg.view.read (Elt Ideal) f (ix3 0 l n) := by
  by_cases h : l = ml k ∧ c ≤ n.val ∧ n.val - c < 128
  · rw [dif_pos h]
    have e : (ix3 0 l n : S1x8x360.Idx) = (Rect.unit (s := S1x8x360) ![0, 0, c] S1x8x128.size inb).emb (ix3 0 l ⟨n.val - c, h.2.2⟩) := by
      funext a; fin_cases a
      · exact Fin.ext (by show 0 = 0 + 1 * 0; omega)
      · exact Fin.ext (by show l.val = 0 + 1 * l.val; omega)
      · exact Fin.ext (by show n.val = c + 1 * (n.val - c); omega)
    rw [e]
    exact View.read_slice_write_emb (v := arg.view) (Rect.unit (s := S1x8x360) ![0, 0, c] S1x8x128.size inb) f w (M := m.on) (x := ix3 0 l ⟨n.val - c, h.2.2⟩) (Finset.mem_filter.mpr ⟨Finset.mem_univ _, (hm l ⟨n.val - c, h.2.2⟩).trans (if_pos h.1)⟩)
  · rw [dif_neg h]
    refine View.read_slice_write_of_not_mem (v := arg.view) (Rect.unit (s := S1x8x360) ![0, 0, c] S1x8x128.size inb) f w m.on (y := ix3 0 l n) fun hy => h ?_
    obtain ⟨x, hx, hxe⟩ := Finset.mem_map.mp hy
    obtain ⟨z, a, p, rfl⟩ : ∃ (z : Fin 1) (a : Fin 8) (p : Fin 128), x = ix3 z a p := ⟨x 0, x 1, x 2, eq_ix3 x⟩
    obtain rfl : z = 0 := Subsingleton.elim _ _
    have hx1 := (Finset.mem_filter.mp hx).2
    rw [hm] at hx1
    have h1 : 0 + 1 * a.val = l.val := congrArg Fin.val (congrFun hxe 1)
    have h2 : c + 1 * p.val = n.val := congrArg Fin.val (congrFun hxe 2)
    have ha : a = ml k := by
      by_contra hne
      rw [if_neg hne] at hx1
      exact absurd hx1 (by decide)
    have hp := p.isLt
    exact ⟨(Fin.ext (by omega) : l = a).trans ha, by omega, by omega⟩

/-- A masked write of 104 longitudes at one level, read back. -/
theorem rdM104 (arg : Memref sig .tc .vmem S1x8x360 .f32) (f : arg.view.ty.Contents (Elt Ideal)) (k : Fin k0_t1_loop.trips) (c : ℕ)
    (inb : ∀ a, (![0, 0, c] : Fin 3 → ℕ) a + S1x8x104.size a ≤ S1x8x360.size a) (w : Vec Ideal S1x8x104 .f32) (m : IVec S1x8x104 1)
    (hm : ∀ a n, m (ix3 0 a n) = if a = ml k then 1#1 else 0#1) (l : Fin 8) (n : Fin 360) :
    arg.view.read (Elt Ideal) (View.write (Elt Ideal) (arg.access (Rect.unit (s := S1x8x360) ![0, 0, c] S1x8x104.size inb)) f w m.on) (ix3 0 l n)
      = if h : l = ml k ∧ c ≤ n.val ∧ n.val - c < 104 then w (ix3 0 l ⟨n.val - c, h.2.2⟩) else arg.view.read (Elt Ideal) f (ix3 0 l n) := by
  by_cases h : l = ml k ∧ c ≤ n.val ∧ n.val - c < 104
  · rw [dif_pos h]
    have e : (ix3 0 l n : S1x8x360.Idx) = (Rect.unit (s := S1x8x360) ![0, 0, c] S1x8x104.size inb).emb (ix3 0 l ⟨n.val - c, h.2.2⟩) := by
      funext a; fin_cases a
      · exact Fin.ext (by show 0 = 0 + 1 * 0; omega)
      · exact Fin.ext (by show l.val = 0 + 1 * l.val; omega)
      · exact Fin.ext (by show n.val = c + 1 * (n.val - c); omega)
    rw [e]
    exact View.read_slice_write_emb (v := arg.view) (Rect.unit (s := S1x8x360) ![0, 0, c] S1x8x104.size inb) f w (M := m.on) (x := ix3 0 l ⟨n.val - c, h.2.2⟩) (Finset.mem_filter.mpr ⟨Finset.mem_univ _, (hm l ⟨n.val - c, h.2.2⟩).trans (if_pos h.1)⟩)
  · rw [dif_neg h]
    refine View.read_slice_write_of_not_mem (v := arg.view) (Rect.unit (s := S1x8x360) ![0, 0, c] S1x8x104.size inb) f w m.on (y := ix3 0 l n) fun hy => h ?_
    obtain ⟨x, hx, hxe⟩ := Finset.mem_map.mp hy
    obtain ⟨z, a, p, rfl⟩ : ∃ (z : Fin 1) (a : Fin 8) (p : Fin 104), x = ix3 z a p := ⟨x 0, x 1, x 2, eq_ix3 x⟩
    obtain rfl : z = 0 := Subsingleton.elim _ _
    have hx1 := (Finset.mem_filter.mp hx).2
    rw [hm] at hx1
    have h1 : 0 + 1 * a.val = l.val := congrArg Fin.val (congrFun hxe 1)
    have h2 : c + 1 * p.val = n.val := congrArg Fin.val (congrFun hxe 2)
    have ha : a = ml k := by
      by_contra hne
      rw [if_neg hne] at hx1
      exact absurd hx1 (by decide)
    have hp := p.isLt
    exact ⟨(Fin.ext (by omega) : l = a).trans ha, by omega, by omega⟩

variable {c : Dev nD} {i : grid0.Coords} {arg1 : Memref sig .tc .vmem S8x1x192x360 .bf16} {harg1 : arg1.IsWhole} {arg2 : Memref sig .tc .vmem S8x1x192x360 .fp8e4m3} {harg2 : arg2.IsWhole} {arg3 : Memref sig .tc .vmem S1x8x360 .f32} {harg3 : arg3.IsWhole} {arg4 : Memref sig .tc .vmem S192x192 .fp8e4m3} {harg4 : arg4.IsWhole} {arg5 : Memref sig .tc .vmem S192x768 .fp8e4m3} {harg5 : arg5.IsWhole} {arg6 : Memref sig .tc .vmem S192x768 .fp8e4m3} {harg6 : arg6.IsWhole} {arg7 : Memref sig .tc .vmem S8x192x128 .f32} {harg7 : arg7.IsWhole} {arg8 : Memref sig .tc .vmem S2x768 .f32} {harg8 : arg8.IsWhole} {arg9 : Memref sig .tc .vmem S256x256 .f32} {harg9 : arg9.IsWhole} {arg10 : Memref sig .tc .vmem S8x1x192x360 .bf16} {harg10 : arg10.IsWhole} {arg11 : Memref sig .tc .vmem S8x1x192x360 .fp8e4m3} {harg11 : arg11.IsWhole} {arg12 : Memref sig .tc .vmem S1x8x360 .f32} {harg12 : arg12.IsWhole} {arg13 : Memref sig .tc .vmem S8x1x360x768 .fp8e4m3} {harg13 : arg13.IsWhole} {arg14 : Memref sig .tc .vmem S1x8x360 .f32} {harg14 : arg14.IsWhole} {arg15 : Memref sig .tc .vmem S192x384 .fp8e4m3} {harg15 : arg15.IsWhole} {arg16 : Memref sig .tc .vmem S192x384 .f32} {harg16 : arg16.IsWhole} {k : Fin k0_t1_loop.trips} {f1 : Buf (Elt Ideal) (arg1.view.loc (c : Thread nD τ))} {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))}

/-- After a trip, the result y: at the trip's level the new values, at every other level what was there before. -/
theorem new10 (hE : Eye (arg9.view.read (Elt Ideal) f9)) (l : Fin 8) (n : Fin 360) (d : Fin 192) :
    arg10.view.read (Elt Ideal) (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 f10 f11 f12 f13 f14 f15 f16).1 (ix4 l 0 d n) = if l = ml k then K10 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (ix4 l 0 d n) else (arg10.view.read (Elt Ideal) f10) (ix4 l 0 d n) := by
  unfold trip
  simp only [trip.sl.H10_2, trip.sl.H10_1]
  refine (rdW _ _ k _ _ _ _ _ _ l d n).trans ?_
  by_cases hl : l = ml k
  · subst hl
    rw [if_pos rfl, if_pos rfl]
    have hN := n.isLt
    by_cases h : n.val < 128
    · rw [dif_pos h]
      exact (y0 hE d ⟨n.val, h⟩).trans (congrArg₂ (fun (t : Fin 360) (p : Fin 128) => Y (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) t p d) (Fin.ext (by show n.val = n.val; omega)) (Fin.ext (by show n.val = n.val % 128; omega)))
    · rw [dif_neg h]
      by_cases h' : n.val < 256
      · rw [dif_pos h']
        exact (y1 hE d ⟨n.val - 128, by omega⟩).trans (congrArg₂ (fun (t : Fin 360) (p : Fin 128) => Y (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) t p d) (Fin.ext (by show 128 + (n.val - 128) = n.val; omega)) (Fin.ext (by show n.val - 128 = n.val % 128; omega)))
      · rw [dif_neg h']
        exact (y2 hE d ⟨n.val - 256, by omega⟩).trans (congrArg₂ (fun (t : Fin 360) (p : Fin 128) => Y (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (ml k) t p d) (Fin.ext (by show 256 + (n.val - 256) = n.val; omega)) (Fin.ext (by show n.val - 256 = n.val % 128; omega)))
  · rw [if_neg hl, if_neg hl]

/-- After a trip, the codes of the MLP's input: at the trip's level the new values, at every other level what was there before. -/
theorem new11 (hE : Eye (arg9.view.read (Elt Ideal) f9)) (l : Fin 8) (n : Fin 360) (d : Fin 192) :
    arg11.view.read (Elt Ideal) (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 f10 f11 f12 f13 f14 f15 f16).2.1 (ix4 l 0 d n) = if l = ml k then K11 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (ix4 l 0 d n) else (arg11.view.read (Elt Ideal) f11) (ix4 l 0 d n) := by
  unfold trip
  simp only [trip.sl.H11_3, trip.sl.H11_2, trip.sl.H11_1]
  refine (rdW _ _ k _ _ _ _ _ _ l d n).trans ?_
  by_cases hl : l = ml k
  · subst hl
    rw [if_pos rfl, if_pos rfl]
    have hN := n.isLt
    by_cases h : n.val < 128
    · rw [dif_pos h]
      exact (m0 d ⟨n.val, h⟩).trans (congrArg₂ (fun (t : Fin 360) (p : Fin 128) => cod (X (arg1.view.read (Elt Ideal) f1) (arg2.view.read (Elt Ideal) f2) (arg3.view.read (Elt Ideal) f3) (arg4.view.read (Elt Ideal) f4) (arg7.view.read (Elt Ideal) f7) (ml k) t p) d) (Fin.ext (by show n.val = n.val; omega)) (Fin.ext (by show n.val = n.val % 128; omega)))
    · rw [dif_neg h]
      by_cases h' : n.val < 256
      · rw [dif_pos h']
        exact (m1 d ⟨n.val - 128, by omega⟩).trans (congrArg₂ (fun (t : Fin 360) (p : Fin 128) => cod (X (arg1.view.read (Elt Ideal) f1) (arg2.view.read (Elt Ideal) f2) (arg3.view.read (Elt Ideal) f3) (arg4.view.read (Elt Ideal) f4) (arg7.view.read (Elt Ideal) f7) (ml k) t p) d) (Fin.ext (by show 128 + (n.val - 128) = n.val; omega)) (Fin.ext (by show n.val - 128 = n.val % 128; omega)))
      · rw [dif_neg h']
        exact (m2 d ⟨n.val - 256, by omega⟩).trans (congrArg₂ (fun (t : Fin 360) (p : Fin 128) => cod (X (arg1.view.read (Elt Ideal) f1) (arg2.view.read (Elt Ideal) f2) (arg3.view.read (Elt Ideal) f3) (arg4.view.read (Elt Ideal) f4) (arg7.view.read (Elt Ideal) f7) (ml k) t p) d) (Fin.ext (by show 256 + (n.val - 256) = n.val; omega)) (Fin.ext (by show n.val - 256 = n.val % 128; omega)))
  · rw [if_neg hl, if_neg hl]

/-- After a trip, the scales of the MLP's input: at the trip's level the new values, at every other level what was there before. -/
theorem new12 (hE : Eye (arg9.view.read (Elt Ideal) f9)) (l : Fin 8) (n : Fin 360) :
    arg12.view.read (Elt Ideal) (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 f10 f11 f12 f13 f14 f15 f16).2.2.1 (ix3 0 l n) = if l = ml k then K12 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (ix3 0 l n) else (arg12.view.read (Elt Ideal) f12) (ix3 0 l n) := by
  unfold trip
  simp only [trip.sl.H12_w3, trip.sl.H12_w2, trip.sl.H12_w1]
  refine (rdM104 arg12 _ k 256 _ _ _ (mask_v267 k) l n).trans ?_
  have r1 := fun g w => rdM128 arg12 g k 128 (by decide) w _ (mask_v95 k) l n
  have r2 := fun g w => rdM128 arg12 g k 0 (by decide) w _ (mask_v95 k) l n
  by_cases hl : l = ml k
  · subst hl
    rw [if_pos rfl]
    have hN := n.isLt
    by_cases h : n.val < 128
    · rw [dif_neg (by omega)]
      refine (r1 _ _).trans ?_
      rw [dif_neg (by omega)]
      refine (r2 _ _).trans ?_
      rw [dif_pos ⟨rfl, by omega, by omega⟩]
      exact (ms0 (ml k) ⟨n.val, h⟩).trans (congrArg₂ (fun (t : Fin 360) (p : Fin 128) => scl (X (arg1.view.read (Elt Ideal) f1) (arg2.view.read (Elt Ideal) f2) (arg3.view.read (Elt Ideal) f3) (arg4.view.read (Elt Ideal) f4) (arg7.view.read (Elt Ideal) f7) (ml k) t p)) (Fin.ext (by show n.val = n.val; omega)) (Fin.ext (by show n.val = n.val % 128; omega)))
    · by_cases h' : n.val < 256
      · rw [dif_neg (by omega)]
        refine (r1 _ _).trans ?_
        rw [dif_pos ⟨rfl, by omega, by omega⟩]
        exact (ms1 (ml k) ⟨n.val - 128, by omega⟩).trans (congrArg₂ (fun (t : Fin 360) (p : Fin 128) => scl (X (arg1.view.read (Elt Ideal) f1) (arg2.view.read (Elt Ideal) f2) (arg3.view.read (Elt Ideal) f3) (arg4.view.read (Elt Ideal) f4) (arg7.view.read (Elt Ideal) f7) (ml k) t p)) (Fin.ext (by show 128 + (n.val - 128) = n.val; omega)) (Fin.ext (by show n.val - 128 = n.val % 128; omega)))
      · rw [dif_pos ⟨rfl, by omega, by omega⟩]
        exact (ms2 (ml k) ⟨n.val - 256, by omega⟩).trans (congrArg₂ (fun (t : Fin 360) (p : Fin 128) => scl (X (arg1.view.read (Elt Ideal) f1) (arg2.view.read (Elt Ideal) f2) (arg3.view.read (Elt Ideal) f3) (arg4.view.read (Elt Ideal) f4) (arg7.view.read (Elt Ideal) f7) (ml k) t p)) (Fin.ext (by show 256 + (n.val - 256) = n.val; omega)) (Fin.ext (by show n.val - 256 = n.val % 128; omega)))
  · rw [if_neg hl, dif_neg (fun h => hl h.1)]
    refine (r1 _ _).trans ?_
    rw [dif_neg (fun h => hl h.1)]
    refine (r2 _ _).trans ?_
    rw [dif_neg (fun h => hl h.1)]

/-- After a trip, the codes of the hidden layer: at the trip's level the new values, at every other level what was there before. -/
theorem new13 (hE : Eye (arg9.view.read (Elt Ideal) f9)) (l : Fin 8) (n : Fin 360) (j : Fin 768) :
    arg13.view.read (Elt Ideal) (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 f10 f11 f12 f13 f14 f15 f16).2.2.2.1 (ix4 l 0 n j) = if l = ml k then K13 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (ix4 l 0 n j) else (arg13.view.read (Elt Ideal) f13) (ix4 l 0 n j) := by
  unfold trip
  simp only [trip.sl.H13_3, trip.sl.H13_2, trip.sl.H13_1]
  refine (rdH _ _ k _ _ _ _ _ _ l j n).trans ?_
  by_cases hl : l = ml k
  · subst hl
    rw [if_pos rfl, if_pos rfl]
    have hN := n.isLt
    by_cases h : n.val < 128
    · rw [dif_pos h]
      exact (h0 hE ⟨n.val, h⟩ j).trans (congrArg₂ (fun (t : Fin 360) (p : Fin 128) => cod (G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) t p) j) (Fin.ext (by show n.val = n.val; omega)) (Fin.ext (by show n.val = n.val % 128; omega)))
    · rw [dif_neg h]
      by_cases h' : n.val < 256
      · rw [dif_pos h']
        exact (h1 hE ⟨n.val - 128, by omega⟩ j).trans (congrArg₂ (fun (t : Fin 360) (p : Fin 128) => cod (G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) t p) j) (Fin.ext (by show 128 + (n.val - 128) = n.val; omega)) (Fin.ext (by show n.val - 128 = n.val % 128; omega)))
      · rw [dif_neg h']
        exact (h2 hE ⟨n.val - 256, by omega⟩ j).trans (congrArg₂ (fun (t : Fin 360) (p : Fin 128) => cod (G (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) t p) j) (Fin.ext (by show 256 + (n.val - 256) = n.val; omega)) (Fin.ext (by show n.val - 256 = n.val % 128; omega)))
  · rw [if_neg hl, if_neg hl]

/-- After a trip, the scales of the hidden layer: at the trip's level the new values, at every other level what was there before. -/
theorem new14 (hE : Eye (arg9.view.read (Elt Ideal) f9)) (l : Fin 8) (n : Fin 360) :
    arg14.view.read (Elt Ideal) (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 f10 f11 f12 f13 f14 f15 f16).2.2.2.2.1 (ix3 0 l n) = if l = ml k then K14 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (ix3 0 l n) else (arg14.view.read (Elt Ideal) f14) (ix3 0 l n) := by
  unfold trip
  simp only [trip.sl.H14_w6, trip.sl.H14_w5, trip.sl.H14_w4]
  refine (rdM104 arg14 _ k 256 _ _ _ (mask_v991 k) l n).trans ?_
  have r1 := fun g w => rdM128 arg14 g k 128 (by decide) w _ (mask_p98 k) l n
  have r2 := fun g w => rdM128 arg14 g k 0 (by decide) w _ (mask_p64 k) l n
  by_cases hl : l = ml k
  · subst hl
    rw [if_pos rfl]
    have hN := n.isLt
    by_cases h : n.val < 128
    · rw [dif_neg (by omega)]
      refine (r1 _ _).trans ?_
      rw [dif_neg (by omega)]
      refine (r2 _ _).trans ?_
      rw [dif_pos ⟨rfl, by omega, by omega⟩]
      exact (hz0 hE (ml k) ⟨n.val, h⟩).trans (congrArg₂ (fun (t : Fin 360) (p : Fin 128) => HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) t p) (Fin.ext (by show n.val = n.val; omega)) (Fin.ext (by show n.val = n.val % 128; omega)))
    · by_cases h' : n.val < 256
      · rw [dif_neg (by omega)]
        refine (r1 _ _).trans ?_
        rw [dif_pos ⟨rfl, by omega, by omega⟩]
        exact (hz1 hE (ml k) ⟨n.val - 128, by omega⟩).trans (congrArg₂ (fun (t : Fin 360) (p : Fin 128) => HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) t p) (Fin.ext (by show 128 + (n.val - 128) = n.val; omega)) (Fin.ext (by show n.val - 128 = n.val % 128; omega)))
      · rw [dif_pos ⟨rfl, by omega, by omega⟩]
        exact (hz2 hE (ml k) ⟨n.val - 256, by omega⟩).trans (congrArg₂ (fun (t : Fin 360) (p : Fin 128) => HS (arg1.view.read (Elt Ideal) f1) (arg2.view.read (Elt Ideal) f2) (arg3.view.read (Elt Ideal) f3) (arg4.view.read (Elt Ideal) f4) (arg5.view.read (Elt Ideal) f5) (arg7.view.read (Elt Ideal) f7) (arg8.view.read (Elt Ideal) f8) (ml k) t p) (Fin.ext (by show 256 + (n.val - 256) = n.val; omega)) (Fin.ext (by show n.val - 256 = n.val % 128; omega)))
  · rw [if_neg hl, dif_neg (fun h => hl h.1)]
    refine (r1 _ _).trans ?_
    rw [dif_neg (fun h => hl h.1)]
    refine (r2 _ _).trans ?_
    rw [dif_neg (fun h => hl h.1)]

end Cert.Proof.KernelIdeal

end
-- ==== Proof.KernelIdeal.Step.lean ====
/- The loop over the levels: what the trips so far have left in the five results. -/
module

public import proofs.«01_k».proof.Proof.KernelIdeal.Trip
public import proofs.«01_k».proof.Proof.KernelIdeal.New

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

/-- The levels below `k` of the five results hold what the call writes. -/
def Rows (c : Dev nD) (arg1 : Memref sig .tc .vmem S8x1x192x360 .bf16) (arg2 : Memref sig .tc .vmem S8x1x192x360 .fp8e4m3) (arg3 : Memref sig .tc .vmem S1x8x360 .f32) (arg4 : Memref sig .tc .vmem S192x192 .fp8e4m3) (arg5 : Memref sig .tc .vmem S192x768 .fp8e4m3) (arg6 : Memref sig .tc .vmem S192x768 .fp8e4m3) (arg7 : Memref sig .tc .vmem S8x192x128 .f32) (arg8 : Memref sig .tc .vmem S2x768 .f32) (arg9 : Memref sig .tc .vmem S256x256 .f32) (arg10 : Memref sig .tc .vmem S8x1x192x360 .bf16) (arg11 : Memref sig .tc .vmem S8x1x192x360 .fp8e4m3) (arg12 : Memref sig .tc .vmem S1x8x360 .f32) (arg13 : Memref sig .tc .vmem S8x1x360x768 .fp8e4m3) (arg14 : Memref sig .tc .vmem S1x8x360 .f32) (arg15 : Memref sig .tc .vmem S192x384 .fp8e4m3) (arg16 : Memref sig .tc .vmem S192x384 .f32) (k : ℕ) (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (g10 : Buf (Elt Ideal) (arg10.view.loc (c : Thread nD τ))) (g11 : Buf (Elt Ideal) (arg11.view.loc (c : Thread nD τ))) (g12 : Buf (Elt Ideal) (arg12.view.loc (c : Thread nD τ))) (g13 : Buf (Elt Ideal) (arg13.view.loc (c : Thread nD τ))) (g14 : Buf (Elt Ideal) (arg14.view.loc (c : Thread nD τ))) : Prop :=
  Eye (arg9.view.read (Elt Ideal) f9) → ∀ l : Fin 8, l.val < k → ∀ n : Fin 360,
    (∀ d, (arg10.view.read (Elt Ideal) g10) (ix4 l 0 d n) = K10 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (ix4 l 0 d n))
    ∧ (∀ d, (arg11.view.read (Elt Ideal) g11) (ix4 l 0 d n) = K11 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (ix4 l 0 d n))
    ∧ (arg12.view.read (Elt Ideal) g12) (ix3 0 l n) = K12 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (ix3 0 l n)
    ∧ (∀ j, (arg13.view.read (Elt Ideal) g13) (ix4 l 0 n j) = K13 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (ix4 l 0 n j))
    ∧ (arg14.view.read (Elt Ideal) g14) (ix3 0 l n) = K14 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (ix3 0 l n)

variable (c : Dev nD) (i : grid0.Coords) (arg1 : Memref sig .tc .vmem S8x1x192x360 .bf16) (harg1 : arg1.IsWhole) (arg2 : Memref sig .tc .vmem S8x1x192x360 .fp8e4m3) (harg2 : arg2.IsWhole) (arg3 : Memref sig .tc .vmem S1x8x360 .f32) (harg3 : arg3.IsWhole) (arg4 : Memref sig .tc .vmem S192x192 .fp8e4m3) (harg4 : arg4.IsWhole) (arg5 : Memref sig .tc .vmem S192x768 .fp8e4m3) (harg5 : arg5.IsWhole) (arg6 : Memref sig .tc .vmem S192x768 .fp8e4m3) (harg6 : arg6.IsWhole) (arg7 : Memref sig .tc .vmem S8x192x128 .f32) (harg7 : arg7.IsWhole) (arg8 : Memref sig .tc .vmem S2x768 .f32) (harg8 : arg8.IsWhole) (arg9 : Memref sig .tc .vmem S256x256 .f32) (harg9 : arg9.IsWhole) (arg10 : Memref sig .tc .vmem S8x1x192x360 .bf16) (harg10 : arg10.IsWhole) (arg11 : Memref sig .tc .vmem S8x1x192x360 .fp8e4m3) (harg11 : arg11.IsWhole) (arg12 : Memref sig .tc .vmem S1x8x360 .f32) (harg12 : arg12.IsWhole) (arg13 : Memref sig .tc .vmem S8x1x360x768 .fp8e4m3) (harg13 : arg13.IsWhole) (arg14 : Memref sig .tc .vmem S1x8x360 .f32) (harg14 : arg14.IsWhole) (arg15 : Memref sig .tc .vmem S192x384 .fp8e4m3) (harg15 : arg15.IsWhole) (arg16 : Memref sig .tc .vmem S192x384 .f32) (harg16 : arg16.IsWhole)

/-- Before the first trip there is nothing to know. -/
theorem rows_zero (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (g10 : Buf (Elt Ideal) (arg10.view.loc (c : Thread nD τ))) (g11 : Buf (Elt Ideal) (arg11.view.loc (c : Thread nD τ))) (g12 : Buf (Elt Ideal) (arg12.view.loc (c : Thread nD τ))) (g13 : Buf (Elt Ideal) (arg13.view.loc (c : Thread nD τ))) (g14 : Buf (Elt Ideal) (arg14.view.loc (c : Thread nD τ))) : Rows c arg1 arg2 arg3 arg4 arg5 arg6 arg7 arg8 arg9 arg10 arg11 arg12 arg13 arg14 arg15 arg16 0 f1 f2 f3 f4 f5 f6 f7 f8 f9 g10 g11 g12 g13 g14 :=
  fun _ l h => absurd h (Nat.not_lt_zero _)

/-- After the eighth trip every result is as the call writes it. -/
theorem rows_done (k : ℕ) (hk : k = 8) (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (g10 : Buf (Elt Ideal) (arg10.view.loc (c : Thread nD τ))) (g11 : Buf (Elt Ideal) (arg11.view.loc (c : Thread nD τ))) (g12 : Buf (Elt Ideal) (arg12.view.loc (c : Thread nD τ))) (g13 : Buf (Elt Ideal) (arg13.view.loc (c : Thread nD τ))) (g14 : Buf (Elt Ideal) (arg14.view.loc (c : Thread nD τ))) (h : Rows c arg1 arg2 arg3 arg4 arg5 arg6 arg7 arg8 arg9 arg10 arg11 arg12 arg13 arg14 arg15 arg16 k f1 f2 f3 f4 f5 f6 f7 f8 f9 g10 g11 g12 g13 g14)
    (hE : Eye (arg9.view.read (Elt Ideal) f9)) : (arg10.view.read (Elt Ideal) g10) = K10 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) ∧ (arg11.view.read (Elt Ideal) g11) = K11 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) ∧ (arg12.view.read (Elt Ideal) g12) = K12 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) ∧ (arg13.view.read (Elt Ideal) g13) = K13 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) ∧ (arg14.view.read (Elt Ideal) g14) = K14 (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) := by
  subst hk
  have z1 : ∀ z : Fin 1, z = 0 := fun z => Subsingleton.elim _ _
  refine ⟨funext fun j => ?_, funext fun j => ?_, funext fun j => ?_, funext fun j => ?_, funext fun j => ?_⟩
  · obtain ⟨a, z, d, n, rfl⟩ : ∃ (a : Fin 8) (z : Fin 1) (d : Fin 192) (n : Fin 360), j = ix4 a z d n := ⟨j 0, j 1, j 2, j 3, eq_ix4 j⟩
    obtain rfl := z1 z; exact (h hE a a.isLt n).1 d
  · obtain ⟨a, z, d, n, rfl⟩ : ∃ (a : Fin 8) (z : Fin 1) (d : Fin 192) (n : Fin 360), j = ix4 a z d n := ⟨j 0, j 1, j 2, j 3, eq_ix4 j⟩
    obtain rfl := z1 z; exact (h hE a a.isLt n).2.1 d
  · obtain ⟨z, a, n, rfl⟩ : ∃ (z : Fin 1) (a : Fin 8) (n : Fin 360), j = ix3 z a n := ⟨j 0, j 1, j 2, eq_ix3 j⟩
    obtain rfl := z1 z; exact (h hE a a.isLt n).2.2.1
  · obtain ⟨a, z, n, d, rfl⟩ : ∃ (a : Fin 8) (z : Fin 1) (n : Fin 360) (d : Fin 768), j = ix4 a z n d := ⟨j 0, j 1, j 2, j 3, eq_ix4 j⟩
    obtain rfl := z1 z; exact (h hE a a.isLt n).2.2.2.1 d
  · obtain ⟨z, a, n, rfl⟩ : ∃ (z : Fin 1) (a : Fin 8) (n : Fin 360), j = ix3 z a n := ⟨j 0, j 1, j 2, eq_ix3 j⟩
    obtain rfl := z1 z; exact (h hE a a.isLt n).2.2.2.2

/-- One more trip, one more level. -/
theorem rows_step (k : Fin k0_t1_loop.trips) (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (g10 : Buf (Elt Ideal) (arg10.view.loc (c : Thread nD τ))) (g11 : Buf (Elt Ideal) (arg11.view.loc (c : Thread nD τ))) (g12 : Buf (Elt Ideal) (arg12.view.loc (c : Thread nD τ))) (g13 : Buf (Elt Ideal) (arg13.view.loc (c : Thread nD τ))) (g14 : Buf (Elt Ideal) (arg14.view.loc (c : Thread nD τ))) (g15 : Buf (Elt Ideal) (arg15.view.loc (c : Thread nD τ))) (g16 : Buf (Elt Ideal) (arg16.view.loc (c : Thread nD τ)))
    (h : Rows c arg1 arg2 arg3 arg4 arg5 arg6 arg7 arg8 arg9 arg10 arg11 arg12 arg13 arg14 arg15 arg16 k.val f1 f2 f3 f4 f5 f6 f7 f8 f9 g10 g11 g12 g13 g14) :
    Rows c arg1 arg2 arg3 arg4 arg5 arg6 arg7 arg8 arg9 arg10 arg11 arg12 arg13 arg14 arg15 arg16 (k.val + 1) f1 f2 f3 f4 f5 f6 f7 f8 f9 (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 g10 g11 g12 g13 g14 g15 g16).1 (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 g10 g11 g12 g13 g14 g15 g16).2.1 (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 g10 g11 g12 g13 g14 g15 g16).2.2.1 (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 g10 g11 g12 g13 g14 g15 g16).2.2.2.1 (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 g10 g11 g12 g13 g14 g15 g16).2.2.2.2.1 := by
  intro hE l hl n
  obtain rfl | hne := eq_or_ne l (ml k)
  · refine ⟨fun d => (new10 hE (ml k) n d).trans (if_pos rfl), fun d => (new11 hE (ml k) n d).trans (if_pos rfl), (new12 hE (ml k) n).trans (if_pos rfl), fun j => (new13 hE (ml k) n j).trans (if_pos rfl), (new14 hE (ml k) n).trans (if_pos rfl)⟩
  · have hlt : l.val < k.val := by
      have h1 : l.val ≠ k.val := fun e => hne (Fin.ext e)
      omega
    obtain ⟨h10, h11, h12, h13, h14⟩ := h hE l hlt n
    exact ⟨fun d => (new10 hE l n d).trans ((if_neg hne).trans (h10 d)), fun d => (new11 hE l n d).trans ((if_neg hne).trans (h11 d)), (new12 hE l n).trans ((if_neg hne).trans h12), fun j => (new13 hE l n j).trans ((if_neg hne).trans (h13 j)), (new14 hE l n).trans ((if_neg hne).trans h14)⟩

end Cert.Proof.KernelIdeal

end
-- ==== Proof.KernelIdeal.Host.lean ====
/- The blocks of the operands: what the host code prepares, read off the arguments. -/
module

public import proofs.«01_k».proof.Proof.KernelIdeal.S2Spec
public import proofs.«01_k».proof.Proof.Gen.KernelIdeal.Frame
public import Idealize.ShloMosaic.Lib.Pipeline.ValueKit

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Tok
open Idealize.ShloMosaic.Pipeline (Dat Cfg Window BodyObligation BodyObligationLoose cellOf)

variable (m : (ℓ : Loc nD τ sig) → Buf (Elt Ideal) ℓ) (c : Dev nD) (t : Fin cfg0.N)

/-- Which block of its array every window reads or writes at a grid point: the point's latitude, or the whole array. -/
theorem idx : ∀ t : Fin cfg0.N, win0_0.index t = ![0, t.val, 0, 0] ∧ win0_1.index t = ![0, t.val, 0, 0] ∧ win0_2.index t = ![t.val, 0, 0]
    ∧ win0_3.index t = ![0, 0] ∧ win0_4.index t = ![0, 0] ∧ win0_5.index t = ![0, 0] ∧ win0_6.index t = ![0, 0, 0] ∧ win0_7.index t = ![0, 0] ∧ win0_8.index t = ![0, 0]
    ∧ win0_9.index t = ![0, t.val, 0, 0] ∧ win0_10.index t = ![0, t.val, 0, 0] ∧ win0_11.index t = ![t.val, 0, 0] ∧ win0_12.index t = ![0, t.val, 0, 0] ∧ win0_13.index t = ![t.val, 0, 0] :=
  (by decide +kernel : ∀ t : Fin grid0.N, _)

/-- The latitude of a grid point. -/
def lat (t : Fin cfg0.N) : Fin 90 := ⟨t.val, t.isLt⟩

/-- The residual stream with features before longitude. -/
theorem V0 (l : Fin 8) (z : Fin 90) (d : Fin 192) (n : Fin 360) : Gen.V m c main_v1 (ix4 l z d n) = (m ((c : Thread nD τ).loc main_arg0)) (ix5 0 l z n d) := by
  entry_read
  pointwise

/-- The residual stream with features before longitude, at the grid point's latitude. -/
theorem blk0 (l : Fin 8) (d : Fin 192) (n : Fin 360) : Gen.iblk m c 0 t (ix4 l 0 d n) = (m ((c : Thread nD τ).loc main_arg0)) (ix5 0 l (lat t) n d) := by
  refine Eq.trans (b := Gen.V m c main_v1 (ix4 l (lat t) d n)) ?_ (V0 ..)
  unfold Gen.iblk
  generalize Gen.V m c = W
  blk_ext [idx t, lat]

/-- The attention's codes with the latitudes of all strips in one axis. -/
theorem V1 (l : Fin 8) (z : Fin 90) (d : Fin 192) (n : Fin 360) : Gen.V m c main_v8 (ix4 l z d n) = (m ((c : Thread nD τ).loc main_arg1)) (ix5 l ⟨(z).val / 3, by omega⟩ ⟨(z).val % 3, by omega⟩ d n) := by
  entry_read
  pointwise

/-- The attention's codes with the latitudes of all strips in one axis, at the grid point's latitude. -/
theorem blk1 (l : Fin 8) (d : Fin 192) (n : Fin 360) : Gen.iblk m c 1 t (ix4 l 0 d n) = (m ((c : Thread nD τ).loc main_arg1)) (ix5 l ⟨(lat t).val / 3, by omega⟩ ⟨(lat t).val % 3, by omega⟩ d n) := by
  refine Eq.trans (b := Gen.V m c main_v8 (ix4 l (lat t) d n)) ?_ (V1 ..)
  unfold Gen.iblk
  generalize Gen.V m c = W
  blk_ext [idx t, lat]

/-- The attention's scales with the latitudes of all strips in one axis. -/
theorem V2 (l : Fin 8) (z : Fin 90) (n : Fin 360) : Gen.V m c main_v9 (ix3 z l n) = (m ((c : Thread nD τ).loc main_arg2)) (ix4 ⟨(z).val / 3, by omega⟩ ⟨(z).val % 3, by omega⟩ l n) := by
  entry_read
  pointwise

/-- The attention's scales with the latitudes of all strips in one axis, at the grid point's latitude. -/
theorem blk2 (l : Fin 8) (n : Fin 360) : Gen.iblk m c 2 t (ix3 0 l n) = (m ((c : Thread nD τ).loc main_arg2)) (ix4 ⟨(lat t).val / 3, by omega⟩ ⟨(lat t).val % 3, by omega⟩ l n) := by
  refine Eq.trans (b := Gen.V m c main_v9 (ix3 (lat t) l n)) ?_ (V2 ..)
  unfold Gen.iblk
  generalize Gen.V m c = W
  blk_ext [idx t, lat]

/-- The projection's matrix, transposed, with the heads in one axis. -/
theorem V3 (d k : Fin 192) : Gen.V m c main_v39 (ix2 d k) = (m ((c : Thread nD τ).loc main_arg3)) (ix3 ⟨k.val / 32, by omega⟩ ⟨k.val % 32, by omega⟩ d) := by
  entry_read
  pointwise

/-- The projection's matrix, transposed, with the heads in one axis: every grid point reads all of it. -/
theorem blk3 (d k : Fin 192) : Gen.iblk m c 3 t (ix2 d k) = (m ((c : Thread nD τ).loc main_arg3)) (ix3 ⟨k.val / 32, by omega⟩ ⟨k.val % 32, by omega⟩ d) := by
  refine Eq.trans (b := Gen.V m c main_v39 (ix2 d k)) ?_ (V3 ..)
  unfold Gen.iblk
  generalize Gen.V m c = W
  blk_ext [idx t, lat]

/-- The first layer's matrix. -/
theorem V4 (d : Fin 192) (j : Fin 768) : Gen.V m c main_arg6 (ix2 d j) = (m ((c : Thread nD τ).loc main_arg6)) (ix2 d j) := by
  entry_read
  rfl

/-- The first layer's matrix: every grid point reads all of it. -/
theorem blk4 (d : Fin 192) (j : Fin 768) : Gen.iblk m c 4 t (ix2 d j) = (m ((c : Thread nD τ).loc main_arg6)) (ix2 d j) := by
  refine Eq.trans (b := Gen.V m c main_arg6 (ix2 d j)) ?_ (V4 ..)
  unfold Gen.iblk
  generalize Gen.V m c = W
  blk_ext [idx t, lat]

/-- The second layer's matrix, transposed. -/
theorem V5 (d : Fin 192) (j : Fin 768) : Gen.V m c main_v40 (ix2 d j) = (m ((c : Thread nD τ).loc main_arg9)) (ix2 j d) := by
  entry_read
  pointwise

/-- The second layer's matrix, transposed: every grid point reads all of it. -/
theorem blk5 (d : Fin 192) (j : Fin 768) : Gen.iblk m c 5 t (ix2 d j) = (m ((c : Thread nD τ).loc main_arg9)) (ix2 j d) := by
  refine Eq.trans (b := Gen.V m c main_v40 (ix2 d j)) ?_ (V5 ..)
  unfold Gen.iblk
  generalize Gen.V m c = W
  blk_ext [idx t, lat]

/-- The host code before the columns are stacked, then the rest. -/
theorem split (b) : Gen.V m c b = StableHlo.after (List.drop 35 (Gen.hostOps0 (F := Ideal))) (StableHlo.after (List.take 35 (Gen.hostOps0 (F := Ideal))) (fun b => m (c, b))) (Proc.tc.devRef b) := by
  rfl

/-- The rest stacks the eight columns. -/
theorem tail_cat (σ : Valuation τ sig (Elt Ideal)) : StableHlo.after (List.drop 35 (Gen.hostOps0 (F := Ideal))) σ (Proc.tc.devRef main_v34)
    = (concatenate S8x192x128 0 [⟨S1x192x128, (σ (Proc.tc.devRef main_v26) : FVec Ideal S1x192x128 .f32)⟩, ⟨S1x192x128, (σ (Proc.tc.devRef main_v27) : FVec Ideal S1x192x128 .f32)⟩, ⟨S1x192x128, (σ (Proc.tc.devRef main_v28) : FVec Ideal S1x192x128 .f32)⟩, ⟨S1x192x128, (σ (Proc.tc.devRef main_v29) : FVec Ideal S1x192x128 .f32)⟩, ⟨S1x192x128, (σ (Proc.tc.devRef main_v30) : FVec Ideal S1x192x128 .f32)⟩, ⟨S1x192x128, (σ (Proc.tc.devRef main_v31) : FVec Ideal S1x192x128 .f32)⟩, ⟨S1x192x128, (σ (Proc.tc.devRef main_v32) : FVec Ideal S1x192x128 .f32)⟩, ⟨S1x192x128, (σ (Proc.tc.devRef main_v33) : FVec Ideal S1x192x128 .f32)⟩] Gen.concatenates_S1x192x128_S1x192x128_S1x192x128_S1x192x128_S1x192x128_S1x192x128_S1x192x128_S1x192x128_S8x192x128_d0 : FVec Ideal S8x192x128 .f32) := by
  simp only [Gen.hostOps0, List.drop_succ_cons, List.drop_zero]
  after_results
  rfl

set_option maxHeartbeats 1600000 in
/-- Eight columns stacked: slice `r` of the stack is column `r`. -/
theorem cat (xs : Fin 8 → FVec Ideal S1x192x128 .f32) (h) (r : Fin 8) (d : Fin 192) (p : Fin 128) :
    concatenate S8x192x128 0 [⟨S1x192x128, xs 0⟩, ⟨S1x192x128, xs 1⟩, ⟨S1x192x128, xs 2⟩, ⟨S1x192x128, xs 3⟩, ⟨S1x192x128, xs 4⟩, ⟨S1x192x128, xs 5⟩, ⟨S1x192x128, xs 6⟩, ⟨S1x192x128, xs 7⟩] h (ix3 r d p) = xs r (ix3 0 d p) := by
  fin_cases r <;> pointwise

/-- The rest leaves the columns as they are. -/
theorem kept (σ : Valuation τ sig (Elt Ideal)) :
    StableHlo.after (List.drop 35 (Gen.hostOps0 (F := Ideal))) σ (Proc.tc.devRef main_v26) = σ (Proc.tc.devRef main_v26)
    ∧ StableHlo.after (List.drop 35 (Gen.hostOps0 (F := Ideal))) σ (Proc.tc.devRef main_v27) = σ (Proc.tc.devRef main_v27)
    ∧ StableHlo.after (List.drop 35 (Gen.hostOps0 (F := Ideal))) σ (Proc.tc.devRef main_v28) = σ (Proc.tc.devRef main_v28)
    ∧ StableHlo.after (List.drop 35 (Gen.hostOps0 (F := Ideal))) σ (Proc.tc.devRef main_v29) = σ (Proc.tc.devRef main_v29)
    ∧ StableHlo.after (List.drop 35 (Gen.hostOps0 (F := Ideal))) σ (Proc.tc.devRef main_v30) = σ (Proc.tc.devRef main_v30)
    ∧ StableHlo.after (List.drop 35 (Gen.hostOps0 (F := Ideal))) σ (Proc.tc.devRef main_v31) = σ (Proc.tc.devRef main_v31)
    ∧ StableHlo.after (List.drop 35 (Gen.hostOps0 (F := Ideal))) σ (Proc.tc.devRef main_v32) = σ (Proc.tc.devRef main_v32)
    ∧ StableHlo.after (List.drop 35 (Gen.hostOps0 (F := Ideal))) σ (Proc.tc.devRef main_v33) = σ (Proc.tc.devRef main_v33) := by
  simp only [Gen.hostOps0, List.drop_succ_cons, List.drop_zero]
  refine ⟨?_, ?_, ?_, ?_, ?_, ?_, ?_, ?_⟩ <;> after_results

set_option maxHeartbeats 1600000 in
/-- Slice `r` of the columns' array is the column that the host code spread for it. -/
theorem stacked (r : Fin 8) (d : Fin 192) (p : Fin 128) :
    Gen.V m c main_v34 (ix3 r d p) = (![Gen.V m c main_v26, Gen.V m c main_v27, Gen.V m c main_v28, Gen.V m c main_v29, Gen.V m c main_v30, Gen.V m c main_v31, Gen.V m c main_v32, Gen.V m c main_v33] : Fin 8 → FVec Ideal S1x192x128 .f32) r (ix3 0 d p) := by
  refine (congrFun ((split m c main_v34).trans (tail_cat _)) (ix3 r d p)).trans ?_
  refine (cat ![StableHlo.after (List.take 35 (Gen.hostOps0 (F := Ideal))) (fun b => m (c, b)) (Proc.tc.devRef main_v26), StableHlo.after (List.take 35 (Gen.hostOps0 (F := Ideal))) (fun b => m (c, b)) (Proc.tc.devRef main_v27), StableHlo.after (List.take 35 (Gen.hostOps0 (F := Ideal))) (fun b => m (c, b)) (Proc.tc.devRef main_v28), StableHlo.after (List.take 35 (Gen.hostOps0 (F := Ideal))) (fun b => m (c, b)) (Proc.tc.devRef main_v29), StableHlo.after (List.take 35 (Gen.hostOps0 (F := Ideal))) (fun b => m (c, b)) (Proc.tc.devRef main_v30), StableHlo.after (List.take 35 (Gen.hostOps0 (F := Ideal))) (fun b => m (c, b)) (Proc.tc.devRef main_v31), StableHlo.after (List.take 35 (Gen.hostOps0 (F := Ideal))) (fun b => m (c, b)) (Proc.tc.devRef main_v32), StableHlo.after (List.take 35 (Gen.hostOps0 (F := Ideal))) (fun b => m (c, b)) (Proc.tc.devRef main_v33)] _ r d p).trans ?_
  obtain ⟨h0, h1, h2, h3, h4, h5, h6, h7⟩ := kept (StableHlo.after (List.take 35 (Gen.hostOps0 (F := Ideal))) (fun b => m (c, b)))
  rw [(split m c main_v26).trans h0, (split m c main_v27).trans h1, (split m c main_v28).trans h2, (split m c main_v29).trans h3, (split m c main_v30).trans h4, (split m c main_v31).trans h5, (split m c main_v32).trans h6, (split m c main_v33).trans h7]

/-- Every grid point's block of the columns is their whole array. -/
theorem whole6 (r : Fin 8) (d : Fin 192) (p : Fin 128) : Gen.iblk m c 6 t (ix3 r d p) = Gen.V m c main_v34 (ix3 r d p) := by
  unfold Gen.iblk
  generalize Gen.V m c = W
  blk_ext [idx t, lat]

/-- The scale of the projection's columns, spread over the lanes. -/
theorem col_0 (d : Fin 192) (p : Fin 128) : Gen.V m c main_v26 (ix3 0 d p) = (m ((c : Thread nD τ).loc main_arg4)) (ix1 d) := by
  entry_read
  pointwise

/-- The scale of the projection's columns, in the block that the kernel reads. -/
theorem blk6_0 (d : Fin 192) (p : Fin 128) : Gen.iblk m c 6 t (ix3 0 d p) = (m ((c : Thread nD τ).loc main_arg4)) (ix1 d) :=
  (whole6 m c t 0 d p).trans ((stacked m c 0 d p).trans (col_0 m c d p))

/-- The bias of the projection, spread over the lanes. -/
theorem col_1 (d : Fin 192) (p : Fin 128) : Gen.V m c main_v27 (ix3 0 d p) = (m ((c : Thread nD τ).loc main_arg5)) (ix1 d) := by
  entry_read
  pointwise

/-- The bias of the projection, in the block that the kernel reads. -/
theorem blk6_1 (d : Fin 192) (p : Fin 128) : Gen.iblk m c 6 t (ix3 1 d p) = (m ((c : Thread nD τ).loc main_arg5)) (ix1 d) :=
  (whole6 m c t 1 d p).trans ((stacked m c 1 d p).trans (col_1 m c d p))

/-- The gain of the first layer norm, spread over the lanes. -/
theorem col_2 (d : Fin 192) (p : Fin 128) : Gen.V m c main_v28 (ix3 0 d p) = (m ((c : Thread nD τ).loc main_arg12)) (ix1 d) := by
  entry_read
  pointwise

/-- The gain of the first layer norm, in the block that the kernel reads. -/
theorem blk6_2 (d : Fin 192) (p : Fin 128) : Gen.iblk m c 6 t (ix3 2 d p) = (m ((c : Thread nD τ).loc main_arg12)) (ix1 d) :=
  (whole6 m c t 2 d p).trans ((stacked m c 2 d p).trans (col_2 m c d p))

/-- The offset of the first layer norm, spread over the lanes. -/
theorem col_3 (d : Fin 192) (p : Fin 128) : Gen.V m c main_v29 (ix3 0 d p) = (m ((c : Thread nD τ).loc main_arg13)) (ix1 d) := by
  entry_read
  pointwise

/-- The offset of the first layer norm, in the block that the kernel reads. -/
theorem blk6_3 (d : Fin 192) (p : Fin 128) : Gen.iblk m c 6 t (ix3 3 d p) = (m ((c : Thread nD τ).loc main_arg13)) (ix1 d) :=
  (whole6 m c t 3 d p).trans ((stacked m c 3 d p).trans (col_3 m c d p))

/-- The scale of the second layer's columns, spread over the lanes. -/
theorem col_4 (d : Fin 192) (p : Fin 128) : Gen.V m c main_v30 (ix3 0 d p) = (m ((c : Thread nD τ).loc main_arg10)) (ix1 d) := by
  entry_read
  pointwise

/-- The scale of the second layer's columns, in the block that the kernel reads. -/
theorem blk6_4 (d : Fin 192) (p : Fin 128) : Gen.iblk m c 6 t (ix3 4 d p) = (m ((c : Thread nD τ).loc main_arg10)) (ix1 d) :=
  (whole6 m c t 4 d p).trans ((stacked m c 4 d p).trans (col_4 m c d p))

/-- The bias of the second layer, spread over the lanes. -/
theorem col_5 (d : Fin 192) (p : Fin 128) : Gen.V m c main_v31 (ix3 0 d p) = (m ((c : Thread nD τ).loc main_arg11)) (ix1 d) := by
  entry_read
  pointwise

/-- The bias of the second layer, in the block that the kernel reads. -/
theorem blk6_5 (d : Fin 192) (p : Fin 128) : Gen.iblk m c 6 t (ix3 5 d p) = (m ((c : Thread nD τ).loc main_arg11)) (ix1 d) :=
  (whole6 m c t 5 d p).trans ((stacked m c 5 d p).trans (col_5 m c d p))

/-- The gain of the second layer norm, spread over the lanes. -/
theorem col_6 (d : Fin 192) (p : Fin 128) : Gen.V m c main_v32 (ix3 0 d p) = (m ((c : Thread nD τ).loc main_arg14)) (ix1 d) := by
  entry_read
  pointwise

/-- The gain of the second layer norm, in the block that the kernel reads. -/
theorem blk6_6 (d : Fin 192) (p : Fin 128) : Gen.iblk m c 6 t (ix3 6 d p) = (m ((c : Thread nD τ).loc main_arg14)) (ix1 d) :=
  (whole6 m c t 6 d p).trans ((stacked m c 6 d p).trans (col_6 m c d p))

/-- The offset of the second layer norm, spread over the lanes. -/
theorem col_7 (d : Fin 192) (p : Fin 128) : Gen.V m c main_v33 (ix3 0 d p) = (m ((c : Thread nD τ).loc main_arg15)) (ix1 d) := by
  entry_read
  pointwise

/-- The offset of the second layer norm, in the block that the kernel reads. -/
theorem blk6_7 (d : Fin 192) (p : Fin 128) : Gen.iblk m c 6 t (ix3 7 d p) = (m ((c : Thread nD τ).loc main_arg15)) (ix1 d) :=
  (whole6 m c t 7 d p).trans ((stacked m c 7 d p).trans (col_7 m c d p))

/-- The first layer's scales, as a row. -/
theorem V7_0 (j : Fin 768) : Gen.V m c main_v37 (ix2 0 j) = (m ((c : Thread nD τ).loc main_arg7)) (ix1 j) := by
  entry_read
  pointwise

/-- The first layer's scales, in the block that the kernel reads. -/
theorem blk7_0 (j : Fin 768) : Gen.iblk m c 7 t (ix2 0 j) = (m ((c : Thread nD τ).loc main_arg7)) (ix1 j) := by
  refine Eq.trans (b := Gen.V m c main_v37 (ix2 0 j)) ?_ (V7_0 ..)
  unfold Gen.iblk
  generalize Gen.V m c = W
  blk_ext [idx t, lat]

/-- The first layer's bias, as a row. -/
theorem V7_1 (j : Fin 768) : Gen.V m c main_v37 (ix2 1 j) = (m ((c : Thread nD τ).loc main_arg8)) (ix1 j) := by
  entry_read
  pointwise

/-- The first layer's bias, in the block that the kernel reads. -/
theorem blk7_1 (j : Fin 768) : Gen.iblk m c 7 t (ix2 1 j) = (m ((c : Thread nD τ).loc main_arg8)) (ix1 j) := by
  refine Eq.trans (b := Gen.V m c main_v37 (ix2 1 j)) ?_ (V7_1 ..)
  unfold Gen.iblk
  generalize Gen.V m c = W
  blk_ext [idx t, lat]

/-- The matrix that the host code makes is the identity. -/
theorem V8 (a b : Fin 256) : Gen.V m c main_v7 (ix2 a b) = ((if a = b then 1 else 0 : EReal) : Ideal .f32) := by
  entry_read
  pointwise
  have h : IntOp.cmpi CmpIPredicate.eq (IntOp.addi (BitVec.ofNat 32 a.val) 0#32) (BitVec.ofNat 32 b.val) = if a = b then 1#1 else 0#1 := by
    rw [show IntOp.addi (BitVec.ofNat 32 a.val) 0#32 = BitVec.ofNat 32 a.val from BitVec.add_zero _]
    by_cases hab : a = b
    · subst hab; simp [IntOp.cmpi]
    · rw [if_neg hab]
      have : BitVec.ofNat 32 a.val ≠ BitVec.ofNat 32 b.val := fun e => hab (Fin.ext (by
        have := congrArg BitVec.toNat e
        simp only [BitVec.toNat_ofNat] at this
        omega))
      simp only [IntOp.cmpi, beq_eq_false_iff_ne.mpr this]; rfl
  refine (congrArg (FloatOps.uitofp FTy.f32) h).trans ?_
  split_ifs
  · show ((((1#1 : BitVec 1).toNat : ℝ) : EReal)) = 1
    simp
  · show ((((0#1 : BitVec 1).toNat : ℝ) : EReal)) = 0
    simp

/-- The block that the kernel reads of it is the identity. -/
theorem eye_blk : Eye (Gen.iblk m c 8 t) := fun a b => by
  refine Eq.trans (b := Gen.V m c main_v7 (ix2 a b)) ?_ (V8 ..)
  unfold Gen.iblk
  generalize Gen.V m c = W
  blk_ext [idx t]

end Cert.Proof.KernelIdeal

end
-- ==== Proof.KernelIdeal.Run.lean ====
/- The run of the projection and MLP kernel: loop, body, launch. -/
module

public import proofs.«01_k».proof.Proof.KernelIdeal.Trip
public import proofs.«01_k».proof.Proof.KernelIdeal.Step
public import proofs.«01_k».proof.Proof.KernelIdeal.Host

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

variable (c : Dev nD) (i : grid0.Coords) (arg1 : Memref sig .tc .vmem S8x1x192x360 .bf16) (harg1 : arg1.IsWhole) (arg2 : Memref sig .tc .vmem S8x1x192x360 .fp8e4m3) (harg2 : arg2.IsWhole) (arg3 : Memref sig .tc .vmem S1x8x360 .f32) (harg3 : arg3.IsWhole) (arg4 : Memref sig .tc .vmem S192x192 .fp8e4m3) (harg4 : arg4.IsWhole) (arg5 : Memref sig .tc .vmem S192x768 .fp8e4m3) (harg5 : arg5.IsWhole) (arg6 : Memref sig .tc .vmem S192x768 .fp8e4m3) (harg6 : arg6.IsWhole) (arg7 : Memref sig .tc .vmem S8x192x128 .f32) (harg7 : arg7.IsWhole) (arg8 : Memref sig .tc .vmem S2x768 .f32) (harg8 : arg8.IsWhole) (arg9 : Memref sig .tc .vmem S256x256 .f32) (harg9 : arg9.IsWhole) (arg10 : Memref sig .tc .vmem S8x1x192x360 .bf16) (harg10 : arg10.IsWhole) (arg11 : Memref sig .tc .vmem S8x1x192x360 .fp8e4m3) (harg11 : arg11.IsWhole) (arg12 : Memref sig .tc .vmem S1x8x360 .f32) (harg12 : arg12.IsWhole) (arg13 : Memref sig .tc .vmem S8x1x360x768 .fp8e4m3) (harg13 : arg13.IsWhole) (arg14 : Memref sig .tc .vmem S1x8x360 .f32) (harg14 : arg14.IsWhole) (arg15 : Memref sig .tc .vmem S192x384 .fp8e4m3) (harg15 : arg15.IsWhole) (arg16 : Memref sig .tc .vmem S192x384 .f32) (harg16 : arg16.IsWhole)

set_option warn.classDefReducibility false in
/-- The level loop's invariant: the inputs as they are, the outputs and the scratch at some contents with the levels before k written. -/
@[sl_loop] def loopInv (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) :
    Gen.LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv k _ := iprop(∃ g10 g11 g12 g13 g14 g15 g16, Res (F := Ideal) c arg1 arg2 arg3 arg4 arg5 arg6 arg7 arg8 arg9 arg10 arg11 arg12 arg13 arg14 arg15 arg16 f1 f2 f3 f4 f5 f6 f7 f8 f9 g10 g11 g12 g13 g14 g15 g16 ∗ ⌜Rows c arg1 arg2 arg3 arg4 arg5 arg6 arg7 arg8 arg9 arg10 arg11 arg12 arg13 arg14 arg15 arg16 (k) f1 f2 f3 f4 f5 f6 f7 f8 f9 g10 g11 g12 g13 g14⌝)
  step k _ := by
    iintro ⟨%g10, %g11, %g12, %g13, %g14, %g15, %g16, H, %hR⟩
    iapply (wp_wand_r Idealize.ShloMosaic.frame (wpE (defs₀ (F := Ideal)) Variants.none (c : Thread nD τ) none) Set.univ)
    isplitl [H]
    · iapply (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 g10 g11 g12 g13 g14 g15 g16).2.2.2.2.2.2.2
      iexact H
    · iintro %_ H'
      iexists _; iexists _; iexists _; iexists _; iexists _; iexists _; iexists _
      isplitl [H']
      · iexact H'
      · ipureintro; exact rows_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k f1 f2 f3 f4 f5 f6 f7 f8 f9 g10 g11 g12 g13 g14 g15 g16 hR

set_option maxHeartbeats 4000000 in
/-- The kernel body at one grid point. -/
theorem sound_kernel (E : Set ℕ) (x1 : Vec Ideal S8x1x192x360 .bf16) (x2 : Vec Ideal S8x1x192x360 .fp8e4m3) (x3 : Vec Ideal S1x8x360 .f32) (x4 : Vec Ideal S192x192 .fp8e4m3) (x5 : Vec Ideal S192x768 .fp8e4m3) (x6 : Vec Ideal S192x768 .fp8e4m3) (x7 : Vec Ideal S8x192x128 .f32) (x8 : Vec Ideal S2x768 .f32) (x9 : Vec Ideal S256x256 .f32) (hE : Eye x9) (K : PUnit → sProp 𝕄) (hE : E = Set.univ) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (K10 x1 x2 x3 x4 x5 x6 x7 x8 x9) ∗ owns (c : Thread nD τ) arg11 fullShare (K11 x1 x2 x3 x4 x5 x6 x7 x8 x9) ∗ owns (c : Thread nD τ) arg12 fullShare (K12 x1 x2 x3 x4 x5 x6 x7 x8 x9) ∗ owns (c : Thread nD τ) arg13 fullShare (K13 x1 x2 x3 x4 x5 x6 x7 x8 x9) ∗ owns (c : Thread nD τ) arg14 fullShare (K14 x1 x2 x3 x4 x5 x6 x7 x8 x9) ∗ (∃ d, owns (c : Thread nD τ) arg15 fullShare d) ∗ (∃ d, owns (c : Thread nD τ) arg16 fullShare d)) -∗ K PUnit.unit))
      ⊢ wp frame (wpE (defs₀ (F := Ideal)) Variants.none c none) E (cc0_projection_mlp (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  subst hE
  simp only [Gen.cc0_projection_mlp_eq_skeleton]; unfold Gen.cc0_projection_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst hf1 hf2 hf3 hf4 hf5 hf6 hf7 hf8 hf9
  have hR0 := rows_zero c arg1 arg2 arg3 arg4 arg5 arg6 arg7 arg8 arg9 arg10 arg11 arg12 arg13 arg14 arg15 arg16 f1 f2 f3 f4 f5 f6 f7 f8 f9 f10 f11 f12 f13 f14
  by_cases h : (Scalar.cmpi .ne (Scalar.extui (Scalar.cmpi .eq (BitVec.ofNat 32 (i 0).val) 0#32) : BitVec 32) 0#32) = 1#1
  all_goals
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr; swap; · iexact H10
      ipureintro; exact (rows_done c arg1 arg2 arg3 arg4 arg5 arg6 arg7 arg8 arg9 arg10 arg11 arg12 arg13 arg14 arg15 arg16 (Scf.trips k0_t1_loop.lb k0_t1_loop.ub k0_t1_loop.st) (by decide) f1 f2 f3 f4 f5 f6 f7 f8 f9 _ _ _ _ _ (by assumption) hE).1
    isplitl [H11]
    · iexists _; isplitr; swap; · iexact H11
      ipureintro; exact (rows_done c arg1 arg2 arg3 arg4 arg5 arg6 arg7 arg8 arg9 arg10 arg11 arg12 arg13 arg14 arg15 arg16 (Scf.trips k0_t1_loop.lb k0_t1_loop.ub k0_t1_loop.st) (by decide) f1 f2 f3 f4 f5 f6 f7 f8 f9 _ _ _ _ _ (by assumption) hE).2.1
    isplitl [H12]
    · iexists _; isplitr; swap; · iexact H12
      ipureintro; exact (rows_done c arg1 arg2 arg3 arg4 arg5 arg6 arg7 arg8 arg9 arg10 arg11 arg12 arg13 arg14 arg15 arg16 (Scf.trips k0_t1_loop.lb k0_t1_loop.ub k0_t1_loop.st) (by decide) f1 f2 f3 f4 f5 f6 f7 f8 f9 _ _ _ _ _ (by assumption) hE).2.2.1
    isplitl [H13]
    · iexists _; isplitr; swap; · iexact H13
      ipureintro; exact (rows_done c arg1 arg2 arg3 arg4 arg5 arg6 arg7 arg8 arg9 arg10 arg11 arg12 arg13 arg14 arg15 arg16 (Scf.trips k0_t1_loop.lb k0_t1_loop.ub k0_t1_loop.st) (by decide) f1 f2 f3 f4 f5 f6 f7 f8 f9 _ _ _ _ _ (by assumption) hE).2.2.2.1
    isplitl [H14]
    · iexists _; isplitr; swap; · iexact H14
      ipureintro; exact (rows_done c arg1 arg2 arg3 arg4 arg5 arg6 arg7 arg8 arg9 arg10 arg11 arg12 arg13 arg14 arg15 arg16 (Scf.trips k0_t1_loop.lb k0_t1_loop.ub k0_t1_loop.st) (by decide) f1 f2 f3 f4 f5 f6 f7 f8 f9 _ _ _ _ _ (by assumption) hE).2.2.2.2
    isplitl [H15]
    · iexists _; iexists _; isplitr; swap; · iexact H15
      ipureintro; rfl
    iexists _; iexists _; isplitr; swap; · iexact H16
    ipureintro; rfl

/-! ## The proof data and the run -/

variable (m : (ℓ : Loc nD τ sig) → Buf (Elt Ideal) ℓ) (ρ : Dev nD → PrngReg)

/-- The proof data of the pipeline: the arrays as the region finds them, each input's buffer at its block after the body. -/
def dats (_ : Fin 1) (c : Dev nD) : Dat τ (Elt Ideal) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => Gen.iblk m c 8 t
    | ⟨9, _⟩ => K10 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t)
    | ⟨10, _⟩ => K11 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t)
    | ⟨11, _⟩ => K12 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t)
    | ⟨12, _⟩ => K13 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t)
    | ⟨13, _⟩ => K14 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t)
    | ⟨_ + 14, h⟩ => absurd h (Nat.not_lt.2 (Nat.le_add_left _ _))
  Φ _ := Pipeline.ΦA spec0 c
  q _ := fullShare
  owed _ := 0

/-- Before the first grid step every window's array holds what the host code left in it. -/
theorem A_eq (c : Dev nD) (w : Fin cfg0.W) : (dats m 0 c).A w = Gen.V m c (Pipeline.arrRef spec0 w) := by
  dsimp only [dats]
/-- Operand 0: the body leaves the staged block as it is. -/
theorem after_0 (c : Dev nD) (t : Fin cfg0.N) : (dats m 0 c).after 0 t = Gen.iblk m c 0 t := by dsimp only [dats]
/-- Operand 0: the body finds its block of the array staged. -/
theorem before_0 (c : Dev nD) (t : Fin cfg0.N) (d) : (dats m 0 c).before 0 t d = Gen.iblk m c 0 t :=
  Gen.before0_0_of m (dats m 0 c) (A_eq m c 0) (after_0 m c) t d
/-- Operand 1: the body leaves the staged block as it is. -/
theorem after_1 (c : Dev nD) (t : Fin cfg0.N) : (dats m 0 c).after 1 t = Gen.iblk m c 1 t := by dsimp only [dats]
/-- Operand 1: the body finds its block of the array staged. -/
theorem before_1 (c : Dev nD) (t : Fin cfg0.N) (d) : (dats m 0 c).before 1 t d = Gen.iblk m c 1 t :=
  Gen.before0_1_of m (dats m 0 c) (A_eq m c 1) (after_1 m c) t d
/-- Operand 2: the body leaves the staged block as it is. -/
theorem after_2 (c : Dev nD) (t : Fin cfg0.N) : (dats m 0 c).after 2 t = Gen.iblk m c 2 t := by dsimp only [dats]
/-- Operand 2: the body finds its block of the array staged. -/
theorem before_2 (c : Dev nD) (t : Fin cfg0.N) (d) : (dats m 0 c).before 2 t d = Gen.iblk m c 2 t :=
  Gen.before0_2_of m (dats m 0 c) (A_eq m c 2) (after_2 m c) t d
/-- Operand 3: the body leaves the staged block as it is. -/
theorem after_3 (c : Dev nD) (t : Fin cfg0.N) : (dats m 0 c).after 3 t = Gen.iblk m c 3 t := by dsimp only [dats]
/-- Operand 3: the body finds its block of the array staged. -/
theorem before_3 (c : Dev nD) (t : Fin cfg0.N) (d) : (dats m 0 c).before 3 t d = Gen.iblk m c 3 t :=
  Gen.before0_3_of m (dats m 0 c) (A_eq m c 3) (after_3 m c) t d
/-- Operand 4: the body leaves the staged block as it is. -/
theorem after_4 (c : Dev nD) (t : Fin cfg0.N) : (dats m 0 c).after 4 t = Gen.iblk m c 4 t := by dsimp only [dats]
/-- Operand 4: the body finds its block of the array staged. -/
theorem before_4 (c : Dev nD) (t : Fin cfg0.N) (d) : (dats m 0 c).before 4 t d = Gen.iblk m c 4 t :=
  Gen.before0_4_of m (dats m 0 c) (A_eq m c 4) (after_4 m c) t d
/-- Operand 5: the body leaves the staged block as it is. -/
theorem after_5 (c : Dev nD) (t : Fin cfg0.N) : (dats m 0 c).after 5 t = Gen.iblk m c 5 t := by dsimp only [dats]
/-- Operand 5: the body finds its block of the array staged. -/
theorem before_5 (c : Dev nD) (t : Fin cfg0.N) (d) : (dats m 0 c).before 5 t d = Gen.iblk m c 5 t :=
  Gen.before0_5_of m (dats m 0 c) (A_eq m c 5) (after_5 m c) t d
/-- Operand 6: the body leaves the staged block as it is. -/
theorem after_6 (c : Dev nD) (t : Fin cfg0.N) : (dats m 0 c).after 6 t = Gen.iblk m c 6 t := by dsimp only [dats]
/-- Operand 6: the body finds its block of the array staged. -/
theorem before_6 (c : Dev nD) (t : Fin cfg0.N) (d) : (dats m 0 c).before 6 t d = Gen.iblk m c 6 t :=
  Gen.before0_6_of m (dats m 0 c) (A_eq m c 6) (after_6 m c) t d
/-- Operand 7: the body leaves the staged block as it is. -/
theorem after_7 (c : Dev nD) (t : Fin cfg0.N) : (dats m 0 c).after 7 t = Gen.iblk m c 7 t := by dsimp only [dats]
/-- Operand 7: the body finds its block of the array staged. -/
theorem before_7 (c : Dev nD) (t : Fin cfg0.N) (d) : (dats m 0 c).before 7 t d = Gen.iblk m c 7 t :=
  Gen.before0_7_of m (dats m 0 c) (A_eq m c 7) (after_7 m c) t d
/-- Operand 8: the body leaves the staged block as it is. -/
theorem after_8 (c : Dev nD) (t : Fin cfg0.N) : (dats m 0 c).after 8 t = Gen.iblk m c 8 t := by dsimp only [dats]
/-- Operand 8: the body finds its block of the array staged. -/
theorem before_8 (c : Dev nD) (t : Fin cfg0.N) (d) : (dats m 0 c).before 8 t d = Gen.iblk m c 8 t :=
  Gen.before0_8_of m (dats m 0 c) (A_eq m c 8) (after_8 m c) t d
/-- Window 9: the body leaves the result y of the grid point's latitude. -/
theorem after_9 (c : Dev nD) (t : Fin cfg0.N) : (dats m 0 c).after 9 t = K10 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) := by dsimp only [dats]
/-- Window 10: the body leaves the codes of the MLP's input of the grid point's latitude. -/
theorem after_10 (c : Dev nD) (t : Fin cfg0.N) : (dats m 0 c).after 10 t = K11 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) := by dsimp only [dats]
/-- Window 11: the body leaves the scales of the MLP's input of the grid point's latitude. -/
theorem after_11 (c : Dev nD) (t : Fin cfg0.N) : (dats m 0 c).after 11 t = K12 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) := by dsimp only [dats]
/-- Window 12: the body leaves the codes of the hidden layer of the grid point's latitude. -/
theorem after_12 (c : Dev nD) (t : Fin cfg0.N) : (dats m 0 c).after 12 t = K13 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) := by dsimp only [dats]
/-- Window 13: the body leaves the scales of the hidden layer of the grid point's latitude. -/
theorem after_13 (c : Dev nD) (t : Fin cfg0.N) : (dats m 0 c).after 13 t = K14 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) := by dsimp only [dats]

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d))
    ∗ (∃ d, owns (c : Thread nD τ) (Gen.st0_4 t) fullShare ((dats m 0 c).before 4 t d))
    ∗ (∃ d, owns (c : Thread nD τ) (Gen.st0_5 t) fullShare ((dats m 0 c).before 5 t d))
    ∗ (∃ d, owns (c : Thread nD τ) (Gen.st0_6 t) fullShare ((dats m 0 c).before 6 t d))
    ∗ (∃ d, owns (c : Thread nD τ) (Gen.st0_7 t) fullShare ((dats m 0 c).before 7 t d))
    ∗ (∃ d, owns (c : Thread nD τ) (Gen.st0_8 t) fullShare ((dats m 0 c).before 8 t d))
    ∗ (∃ d, owns (c : Thread nD τ) (Gen.st0_9 t) fullShare ((dats m 0 c).before 9 t d))
    ∗ (∃ d, owns (c : Thread nD τ) (Gen.st0_10 t) fullShare ((dats m 0 c).before 10 t d))
    ∗ (∃ d, owns (c : Thread nD τ) (Gen.st0_11 t) fullShare ((dats m 0 c).before 11 t d))
    ∗ (∃ d, owns (c : Thread nD τ) (Gen.st0_12 t) fullShare ((dats m 0 c).before 12 t d))
    ∗ (∃ d, owns (c : Thread nD τ) (Gen.st0_13 t) fullShare ((dats m 0 c).before 13 t d)))

/-- What it returns. -/
def bodyPost (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t)
    ∗ owns (c : Thread nD τ) (Gen.st0_3 t) fullShare ((dats m 0 c).after 3 t)
    ∗ owns (c : Thread nD τ) (Gen.st0_4 t) fullShare ((dats m 0 c).after 4 t)
    ∗ owns (c : Thread nD τ) (Gen.st0_5 t) fullShare ((dats m 0 c).after 5 t)
    ∗ owns (c : Thread nD τ) (Gen.st0_6 t) fullShare ((dats m 0 c).after 6 t)
    ∗ owns (c : Thread nD τ) (Gen.st0_7 t) fullShare ((dats m 0 c).after 7 t)
    ∗ owns (c : Thread nD τ) (Gen.st0_8 t) fullShare ((dats m 0 c).after 8 t)
    ∗ owns (c : Thread nD τ) (Gen.st0_9 t) fullShare ((dats m 0 c).after 9 t)
    ∗ owns (c : Thread nD τ) (Gen.st0_10 t) fullShare ((dats m 0 c).after 10 t)
    ∗ owns (c : Thread nD τ) (Gen.st0_11 t) fullShare ((dats m 0 c).after 11 t)
    ∗ owns (c : Thread nD τ) (Gen.st0_12 t) fullShare ((dats m 0 c).after 12 t)
    ∗ owns (c : Thread nD τ) (Gen.st0_13 t) fullShare ((dats m 0 c).after 13 t))

/-- The kernel's body at a grid point takes the staged blocks to the blocks that the proof data name. -/
theorem sound_body (c : Dev nD) (t : Fin cfg0.N) :
    bodyPre m c t ⊢ wp frame (wpE (defs₀ (F := Ideal)) Variants.none c none) Set.univ (Gen.bodyAt0 t) (fun _ => bodyPost m c t) := by
  unfold bodyPre bodyPost Gen.bodyAt0
  simp only [before_0, before_1, before_2, before_3, before_4, before_5, before_6, before_7, before_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10, after_11, after_12, after_13]
  unfold Pipeline.ΦA
  rw [Gen.scopedRest0_eq]
  iintro ⟨⟨⟨⟨%s0, S0⟩, ⟨%s1, S1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c (grid0.coords t) _ _ _ _ _ _ _ _ _ _ _ _ _ _ _ _ _ _ _ _ _ _ _ _ _ _ _ _ _ _ _ _ Set.univ (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (eye_blk m c t) _ rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [S0]; · iexists s0; iapply (show _ ⊢ owns (c : Thread nD τ) (Memref.whole cc0_scratch0) fullShare s0 from .of_eq (owns_whole (c : Thread nD τ) cc0_scratch0 fullShare s0).symm); iexact S0
  isplitl [S1]; · iexists s1; iapply (show _ ⊢ owns (c : Thread nD τ) (Memref.whole cc0_scratch1) fullShare s1 from .of_eq (owns_whole (c : Thread nD τ) cc0_scratch1 fullShare s1).symm); iexact S1
  iintro ⟨H0, H1, H2, H3, H4, H5, H6, H7, H8, H9, H10, H11, H12, H13, ⟨%s0', S0⟩, ⟨%s1', S1⟩⟩
  isplitl [S0 S1 Hp]
  · isplitl [S0 S1]
    · isplitl [S0]
      · iexists s0'
        iapply (show owns (c : Thread nD τ) (Memref.whole cc0_scratch0) fullShare s0' ⊢ _ from .of_eq (owns_whole (c : Thread nD τ) cc0_scratch0 fullShare s0')); iexact S0
      · iexists s1'
        iapply (show owns (c : Thread nD τ) (Memref.whole cc0_scratch1) fullShare s1' ⊢ _ from .of_eq (owns_whole (c : Thread nD τ) cc0_scratch1 fullShare s1')); iexact S1
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body that a grid point runs is the kernel's, at that point's slots. -/
theorem defs₀_row (t : Fin cfg0.N) :
    defs₀ (F := Ideal) .tc cfg0.body (cfg0.bodyArgs t (cfg0.slots t)) = Gen.bodyAt0 t := by
  unfold defs₀; rw [Defs.onTc_tc]

/-- The body meets the obligation of the grid loop at every point. -/
theorem body_obligation (c : Dev nD) : BodyObligation (dats m 0 c) (defs₀ (F := Ideal)) Variants.none () Set.univ := fun t => by
  rw [Gen.bigSep_W0, Gen.bigSep_W0, defs₀_row]
  exact triple_restated (sound_body m c t) rfl .rfl fun _ => .rfl

set_option backward.isDefEq.respectTransparency.types false in
set_option maxHeartbeats 800000 in
/-- The launch: the run ends with every array at what the proof data leave, and every semaphore counter at zero. -/
theorem run_main_quiescent : θ_run defs (onTc (τ := τ) (main (F := Ideal))) (s₀ m ρ) (fun r => (Pipeline.FramePost cfgs (dats m) 0 (Gen.V m)) r ∧ r.2.sem = fun _ => 0) :=
  Pipeline.θ_run_frame (Q' := _) cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m) (hΦ := fun _ _ => rfl)

end Cert.Proof.KernelIdeal

end
-- ==== Proof.Spec.lean ====
/- One token of the projection and MLP call as the reference writes it, and the proof that the kernel's way of
   writing it has the same values. -/
module

public import proofs.«01_k».proof.Proof.Tok

@[expose] public section

noncomputable section

namespace Cert.Proof.Spec

open Idealize.ShloMosaic
open Cert.Proof.Tok

/-- The square root of one half. -/
def rt : EReal := ((Real.sqrt (1 / 2) : ℝ) : EReal)

/-- The error function of the extended reals. -/
def erfE (x : EReal) : EReal := (FloatOps.erf (x : Ideal .f32) : Ideal .f32)

/-! ## The reference's values -/

/-- The layer norm: a division by the standard deviation. -/
def nrmD (v g b : Fin 192 → EReal) (d : Fin 192) : EReal :=
  Ideal.div (v d - mean v) (Ideal.sqrt (vare v)) * g d + b d

/-- The quantiser's codes: a division by the scale. -/
def codD {n : ℕ} (v : Fin n → EReal) (d : Fin n) : EReal := clip (Ideal.div (v d) (scl v))

/-- A product of codes with a matrix, scaled back, with its bias. -/
def lin {n k : ℕ} (c : Fin n → EReal) (s : EReal) (w : Fin n → Fin k → EReal) (sw bw : Fin k → EReal) (j : Fin k) : EReal :=
  (∑ d, c d * w d j) * s * sw j + bw j

/-- The gelu. -/
def gelu (z : EReal) : EReal := Ideal.ofBits .f32 0x3F000000#32 * z * (1 + erfE (z * rt))

/-- The hidden layer of a token. -/
def hid (x : Fin 192 → EReal) (w : Fin 192 → Fin 768 → EReal) (sw bw : Fin 768 → EReal) (j : Fin 768) : EReal :=
  gelu (lin (codD x) (scl x) w sw bw j)

/-- The MLP's result at a token, before its layer norm. -/
def mlp (h : Fin 768 → EReal) (w : Fin 768 → Fin 192 → EReal) (sw bw : Fin 192 → EReal) (d : Fin 192) : EReal :=
  lin (codD h) (scl h) w sw bw d

/-- The call's arguments read as numbers: level `l`, latitude `t`, longitude `n`, feature `d`, hidden feature `j`. -/
structure Args where
  /-- The residual stream. -/
  x : Fin 8 → Fin 90 → Fin 360 → Fin 192 → EReal
  /-- The attention's codes. -/
  o : Fin 8 → Fin 90 → Fin 360 → Fin 192 → EReal
  /-- Their scales. -/
  os : Fin 8 → Fin 90 → Fin 360 → EReal
  /-- The projection's matrix, its column scales and its bias. -/
  wp : Fin 192 → Fin 192 → EReal
  sp : Fin 192 → EReal
  bp : Fin 192 → EReal
  /-- The first layer of the MLP. -/
  w1 : Fin 192 → Fin 768 → EReal
  s1 : Fin 768 → EReal
  b1 : Fin 768 → EReal
  /-- The second layer of the MLP. -/
  w2 : Fin 768 → Fin 192 → EReal
  s2 : Fin 192 → EReal
  b2 : Fin 192 → EReal
  /-- The gains and offsets of the two layer norms. -/
  g1 : Fin 192 → EReal
  n1 : Fin 192 → EReal
  g2 : Fin 192 → EReal
  n2 : Fin 192 → EReal

/-- The projection at a token. -/
def tokA (P : Args) (l : Fin 8) (t : Fin 90) (n : Fin 360) : Fin 192 → EReal := lin (P.o l t n) (P.os l t n) P.wp P.sp P.bp

/-- The first residual at a token. -/
def tokX (P : Args) (l : Fin 8) (t : Fin 90) (n : Fin 360) (d : Fin 192) : EReal := P.x l t n d + nrmD (tokA P l t n) P.g1 P.n1 d

/-- The hidden layer at a token. -/
def tokH (P : Args) (l : Fin 8) (t : Fin 90) (n : Fin 360) : Fin 768 → EReal := hid (tokX P l t n) P.w1 P.s1 P.b1

/-- The second residual at a token: the result. -/
def tokY (P : Args) (l : Fin 8) (t : Fin 90) (n : Fin 360) (d : Fin 192) : EReal :=
  tokX P l t n d + nrmD (mlp (tokH P l t n) P.w2 P.s2 P.b2) P.g2 P.n2 d

/-! ## The constants -/

/-- The literal 192. -/
theorem c192 : Ideal.ofBits .f32 0x43400000#32 = ((192 : ℝ) : EReal) := by
  simp [Ideal.ofBits, Ideal.ieee, -EReal.coe_mul]; norm_num

/-- The literal 448. -/
theorem c448 : Ideal.ofBits .f32 0x43E00000#32 = ((448 : ℝ) : EReal) := by
  simp [Ideal.ofBits, Ideal.ieee, -EReal.coe_mul]; norm_num

/-- The literal one half. -/
theorem chalf : Ideal.ofBits .f32 0x3F000000#32 = ((1 / 2 : ℝ) : EReal) := by
  simp [Ideal.ofBits, Ideal.ieee, -EReal.coe_mul]; norm_num

/-- The layer norm's small constant is positive. -/
theorem ceps : 0 < Ideal.ofBits .f32 0x3727C5AC#32 := by
  have h : Ideal.ofBits .f32 0x3727C5AC#32 = ((10995116 * (2 : ℝ) ^ (-40 : ℤ) : ℝ) : EReal) := by
    simp [Ideal.ofBits, Ideal.ieee, -EReal.coe_mul]
  rw [h]
  exact EReal.coe_pos.mpr (by norm_num)

/-- The maximum starts at minus infinity. -/
theorem cbot : Ideal.ofBits .f32 0xFF800000#32 = ⊥ := by
  simp [Ideal.ofBits, Ideal.ieee]

/-- The square root of one half is positive, as a real. -/
theorem rt_pos : (0 : ℝ) < Real.sqrt (1 / 2) := Real.sqrt_pos.mpr (by norm_num)

/-- The square root of one half is positive, as an extended real. -/
theorem rt_pos' : (0 : EReal) < rt := EReal.coe_pos.mpr rt_pos

/-- The square root of one half is not zero. -/
theorem rt_ne : rt ≠ 0 := rt_pos'.ne'

/-- Its square is the literal one half. -/
theorem rt_sq : rt * rt = Ideal.ofBits .f32 0x3F000000#32 := by
  rw [chalf, rt, ← EReal.coe_mul, Real.mul_self_sqrt (by norm_num)]

/-! ## The layer norm -/

/-- A square is not negative, infinite values included. -/
theorem sq_nonneg' (x : EReal) : 0 ≤ x * x := by
  rcases le_total 0 x with h | h
  · exact EReal.mul_nonneg h h
  · rw [EReal.mul_nonneg_iff]; exact .inr ⟨h, h⟩

/-- The mean of values that are not negative is not negative. -/
theorem mean_nonneg (f : Fin 192 → EReal) (hf : ∀ d, 0 ≤ f d) : 0 ≤ mean f := by
  unfold mean
  rw [c192, Ideal.div, if_neg (by norm_num)]
  refine EReal.mul_nonneg (Finset.sum_nonneg fun d _ => hf d) ?_
  rw [← EReal.coe_inv]; exact EReal.coe_nonneg.mpr (by norm_num)

/-- The variance plus the small constant is positive, whatever the values. -/
theorem vare_pos (v : Fin 192 → EReal) : 0 < vare v :=
  lt_of_lt_of_le ceps (le_add_of_nonneg_left (mean_nonneg _ fun _ => sq_nonneg' _))

/-- The square root of a positive value is not zero. -/
theorem sqrt_ne {x : EReal} (h : 0 < x) : Ideal.sqrt x ≠ 0 := by
  induction x with
  | bot => simp at h
  | top => simp
  | coe r =>
    have hr : 0 < r := EReal.coe_pos.mp h
    rw [Ideal.sqrt_coe, if_neg hr.le.not_gt]
    exact (EReal.coe_pos.mpr (Real.sqrt_pos.mpr hr)).ne'

/-- The kernel's layer norm is the reference's. -/
theorem nrm_eq (v g b : Fin 192 → EReal) (d : Fin 192) : nrm v g b d = nrmD v g b d := by
  unfold nrm nrmD
  rw [Ideal.mul_one_div (sqrt_ne (vare_pos v))]

/-! ## The quantiser -/

/-- Dividing by 448 is multiplying by its inverse. -/
theorem div448 (x : EReal) : Ideal.div x (Ideal.ofBits .f32 0x43E00000#32) = x * ((448 : ℝ) : EReal)⁻¹ := by
  rw [c448, Ideal.div, if_neg (by norm_num)]

/-- The inverse of 448 is not zero. -/
theorem inv448_ne : ((448 : ℝ) : EReal)⁻¹ ≠ 0 := by
  rw [← EReal.coe_inv]; exact (EReal.coe_pos.mpr (by norm_num)).ne'

/-- A scale is never zero. -/
theorem scl_ne {n : ℕ} (v : Fin n → EReal) : scl v ≠ 0 := by
  unfold scl
  split_ifs with h
  · exact one_ne_zero
  · rw [div448]; exact mul_ne_zero h inv448_ne

/-- The kernel's codes are the reference's. -/
theorem cod_eq {n : ℕ} (v : Fin n → EReal) (d : Fin n) : cod v d = codD v d := by
  unfold cod codD
  rw [Ideal.mul_one_div (scl_ne v)]

/-! ## The hidden layer -/

/-- The square root of one half distributes over a sum, infinite values included. -/
theorem mul_rt_add (a b : EReal) : (a + b) * rt = a * rt + b * rt :=
  EReal.right_distrib_of_nonneg_of_ne_top rt_pos'.le (EReal.coe_ne_top _) a b

/-- The kernel's hidden value times the root is the gelu. -/
theorem gelu_eq (z : EReal) : gelu z = rt * (z * rt * (1 + erfE (z * rt))) := by
  unfold gelu
  rw [← rt_sq]
  ac_rfl

/-- The square root of one half moves into a maximum. -/
theorem rt_max (a b : EReal) : rt * max a b = max (rt * a) (rt * b) := by
  have hm : Monotone (fun x : EReal => rt * x) := fun x y h => mul_le_mul_of_nonneg_left h rt_pos'.le
  exact hm.map_max

/-- The largest magnitude of values times the root is the root times their largest magnitude. -/
theorem amax_rt {n : ℕ} (v : Fin n → EReal) : amax (fun j => rt * v j) = rt * amax v := by
  unfold amax
  rw [← Finset.fold_hom (m := fun x => rt * x) (op' := max) rt_max]
  have hb : rt * Ideal.ofBits .f32 0xFF800000#32 = Ideal.ofBits .f32 0xFF800000#32 := by
    rw [cbot]; exact EReal.coe_mul_bot_of_pos rt_pos
  rw [hb]
  congr 1
  funext j
  rw [rt_max, mul_neg]

/-- Multiplying by the root does not change whether the largest magnitude is zero. -/
theorem amax_rt_zero {n : ℕ} (v : Fin n → EReal) : amax (fun j => rt * v j) = 0 ↔ amax v = 0 := by
  rw [amax_rt]
  exact ⟨fun h => (mul_eq_zero.mp h).resolve_left rt_ne, fun h => by rw [h, mul_zero]⟩

/-- The scale of the gelu's values from the scale of the kernel's hidden values. -/
theorem scl_rt {n : ℕ} (v : Fin n → EReal) : scl (fun j => rt * v j) = if amax v = 0 then 1 else scl v * rt := by
  unfold scl
  rw [amax_rt]
  by_cases h : amax v = 0
  · simp [h]
  · rw [if_neg (mul_ne_zero rt_ne h), if_neg h, if_neg h, div448, div448]
    ac_rfl

/-- Every value is at most the maximum. -/
theorem le_fold {n : ℕ} (f : Fin n → EReal) (b : EReal) (d : Fin n) : f d ≤ Finset.univ.fold max b f :=
  Finset.le_fold_max (f d) |>.mpr (.inr ⟨d, Finset.mem_univ _, le_rfl⟩)

/-- If the largest magnitude is zero, every value is zero. -/
theorem zero_of_amax {n : ℕ} (v : Fin n → EReal) (h : amax v = 0) (d : Fin n) : v d = 0 := by
  have hd : max (v d) (-(v d)) ≤ 0 := h ▸ le_fold (fun d => max (v d) (-(v d))) _ d
  have h1 : v d ≤ 0 := (le_max_left _ _).trans hd
  have h2 : -(v d) ≤ 0 := (le_max_right _ _).trans hd
  exact le_antisymm h1 (by simpa using EReal.neg_le.mp h2)

/-- The codes of the gelu's values are the codes of the kernel's hidden values. -/
theorem codD_rt {n : ℕ} (v : Fin n → EReal) (j : Fin n) : codD (fun j => rt * v j) j = codD v j := by
  unfold codD
  congr 1
  by_cases h : amax v = 0
  · show Ideal.div (rt * v j) _ = _
    rw [zero_of_amax v h j, mul_zero, Ideal.zero_div (scl_ne _), Ideal.zero_div (scl_ne _)]
  · show Ideal.div (rt * v j) _ = _
    rw [scl_rt, if_neg h, Ideal.div, if_neg (mul_ne_zero (scl_ne v) rt_ne), Ideal.div, if_neg (scl_ne v), EReal.mul_inv]
    have hr : rt * rt⁻¹ = 1 := by
      rw [rt, ← EReal.coe_inv, ← EReal.coe_mul, mul_inv_cancel₀ rt_pos.ne', EReal.coe_one]
    calc rt * v j * ((scl v)⁻¹ * rt⁻¹) = v j * (scl v)⁻¹ * (rt * rt⁻¹) := by ac_rfl
      _ = v j * (scl v)⁻¹ := by rw [hr, mul_one]

/-! ## The kernel's values -/

/-- The hidden layer's input over the square root of two, as the kernel holds it. -/
def uK (x : Fin 192 → EReal) (w : Fin 192 → Fin 768 → EReal) (sw bw : Fin 768 → EReal) (j : Fin 768) : EReal :=
  (∑ d, cod x d * w d j) * scl x * (sw j * rt) + bw j * rt

/-- The gelu times the square root of two, as the kernel holds it. -/
def gK (x : Fin 192 → EReal) (w : Fin 192 → Fin 768 → EReal) (sw bw : Fin 768 → EReal) (j : Fin 768) : EReal :=
  uK x w sw bw j * (1 + erfE (uK x w sw bw j))

/-- The kernel's input of the error function is the reference's first layer times the root. -/
theorem uK_eq (x : Fin 192 → EReal) (w : Fin 192 → Fin 768 → EReal) (sw bw : Fin 768 → EReal) (j : Fin 768) :
    uK x w sw bw j = lin (codD x) (scl x) w sw bw j * rt := by
  unfold uK lin
  rw [mul_rt_add]
  simp only [cod_eq]
  rw [mul_assoc _ (sw j) rt]

/-- The reference's hidden values are the kernel's times the root. -/
theorem hid_eq (x : Fin 192 → EReal) (w : Fin 192 → Fin 768 → EReal) (sw bw : Fin 768 → EReal) :
    hid x w sw bw = fun j => rt * gK x w sw bw j := by
  funext j
  unfold hid gK
  rw [gelu_eq, uK_eq]

/-- The scale of the hidden codes. -/
theorem hs_eq (x : Fin 192 → EReal) (w : Fin 192 → Fin 768 → EReal) (sw bw : Fin 768 → EReal) :
    (if amax (gK x w sw bw) = 0 then 1 else scl (gK x w sw bw) * rt) = scl (hid x w sw bw) := by
  rw [hid_eq, scl_rt]

/-- The hidden codes. -/
theorem hc_eq (x : Fin 192 → EReal) (w : Fin 192 → Fin 768 → EReal) (sw bw : Fin 768 → EReal) (j : Fin 768) :
    cod (gK x w sw bw) j = codD (hid x w sw bw) j := by
  rw [hid_eq, codD_rt, cod_eq]

end Cert.Proof.Spec

end
-- ==== Proof.Ref.Spec.lean ====
/- The reference's results at an index, as the scalar mathematics of one token. -/
module

public import proofs.«01_k».proof.Proof.Gen.ReferenceIdeal.Value
public import proofs.«01_k».proof.Proof.Spec

@[expose] public section

set_option maxRecDepth 16384

noncomputable section

namespace Cert.Proof.Ref

open Cert.ReferenceIdeal Cert.ReferenceIdeal.Gen
open Idealize.ShloMosaic Idealize.ShloMosaic.TcCoe
open Cert.Proof.Tok Cert.Proof.Spec

/-! ## The pieces of the body -/

/-- A value per token spread over 192 features. -/
theorem row192 (X : FVec Ideal S259200 .f32) (T : Fin 259200) (d : Fin 192) :
    (broadcastTo S259200x192 (shapeCast S259200x1 X shapeCasts_S259200_S259200x1) broadcasts_S259200x1_S259200x192 (ix2 T d) : EReal) = X (ix1 T) := by
  pointwise

/-- A value per token spread over 768 features. -/
theorem row768 (X : FVec Ideal S259200 .f32) (T : Fin 259200) (d : Fin 768) :
    (broadcastTo S259200x768 (shapeCast S259200x1 X shapeCasts_S259200_S259200x1) broadcasts_S259200x1_S259200x768 (ix2 T d) : EReal) = X (ix1 T) := by
  pointwise

/-- A value per feature spread over the tokens, 192 features. -/
theorem col192 (X : FVec Ideal S192 .f32) (T : Fin 259200) (d : Fin 192) :
    (broadcastTo S259200x192 (shapeCast S1x192 X shapeCasts_S192_S1x192) broadcasts_S1x192_S259200x192 (ix2 T d) : EReal) = X (ix1 d) := by
  pointwise

/-- A value per feature spread over the tokens, 768 features. -/
theorem col768 (X : FVec Ideal S768 .f32) (T : Fin 259200) (d : Fin 768) :
    (broadcastTo S259200x768 (shapeCast S1x768 X shapeCasts_S768_S1x768) broadcasts_S1x768_S259200x768 (ix2 T d) : EReal) = X (ix1 d) := by
  pointwise

/-- The first matrix product of the MLP. -/
theorem mm1 (X : FVec Ideal S259200x192 .fp8e4m3) (W : FVec Ideal S192x768 .fp8e4m3) (T : Fin 259200) (j : Fin 768) :
    (matmul dot_S259200x192_S192x768_S259200x768_1_0_0_1_n_n none X W (constant S259200x768 .f32 0x00000000#32) (ix2 T j) : EReal) = ∑ d, X (ix2 T d) * W (ix2 d j) := by
  pointwise

/-- The second matrix product of the MLP. -/
theorem mm2 (X : FVec Ideal S259200x768 .fp8e4m3) (W : FVec Ideal S768x192 .fp8e4m3) (T : Fin 259200) (d : Fin 192) :
    (matmul dot_S259200x768_S768x192_S259200x192_1_0_0_1_n_n none X W (constant S259200x192 .f32 0x00000000#32) (ix2 T d) : EReal) = ∑ j, X (ix2 T j) * W (ix2 j d) := by
  pointwise

/-- The largest magnitude of a token's 192 values. -/
theorem max192 (X : FVec Ideal S259200x192 .f32) (T : Fin 259200) :
    (multiReduction .maximumf [1] S259200 (absf X) 0xFF800000#32 reduces_S259200x192_S259200 (.inl rfl) rfl (ix1 T) : EReal) = amax fun d => X (ix2 T d) := by
  pointwise
  rfl

/-- The largest magnitude of a token's 768 values. -/
theorem max768 (X : FVec Ideal S259200x768 .f32) (T : Fin 259200) :
    (multiReduction .maximumf [1] S259200 (absf X) 0xFF800000#32 reduces_S259200x768_S259200 (.inl rfl) rfl (ix1 T) : EReal) = amax fun d => X (ix2 T d) := by
  pointwise
  rfl

/-- The sum of a token's 192 values. -/
theorem sum192 (X : FVec Ideal S259200x192 .f32) (T : Fin 259200) :
    (multiReduction .add [1] S259200 X 0x00000000#32 reduces_S259200x192_S259200 (.inl rfl) rfl (ix1 T) : EReal) = ∑ d, X (ix2 T d) := by
  pointwise

/-- The quantiser's scale from the largest magnitude. -/
theorem scale (M : FVec Ideal S259200 .f32) (i : S259200.Idx) :
    (select (cmpf .oeq M (broadcast S259200 (Scalar.ofBits (F := Ideal) .f32 0x00000000#32))) (broadcast S259200 (Scalar.ofBits (F := Ideal) .f32 0x3F800000#32)) (divf M (broadcast S259200 (Scalar.ofBits (F := Ideal) .f32 0x43E00000#32))) i : Ideal .f32)
      = if (M i : EReal) = 0 then (1 : EReal) else Ideal.div (M i) (Ideal.ofBits .f32 0x43E00000#32) := by
  pointwise

/-- The quantiser's scale of 192 values. -/
theorem scale192 (X : FVec Ideal S259200x192 .f32) (T : Fin 259200) :
    (select (cmpf .oeq (multiReduction .maximumf [1] S259200 (absf X) 0xFF800000#32 reduces_S259200x192_S259200 (.inl rfl) rfl) (broadcast S259200 (Scalar.ofBits (F := Ideal) .f32 0x00000000#32))) (broadcast S259200 (Scalar.ofBits (F := Ideal) .f32 0x3F800000#32)) (divf (multiReduction .maximumf [1] S259200 (absf X) 0xFF800000#32 reduces_S259200x192_S259200 (.inl rfl) rfl) (broadcast S259200 (Scalar.ofBits (F := Ideal) .f32 0x43E00000#32))) (ix1 T) : Ideal .f32)
      = scl fun d => X (ix2 T d) := by
  unfold scl
  rw [← max192]
  exact scale _ _

/-- The quantiser's scale of 768 values. -/
theorem scale768 (X : FVec Ideal S259200x768 .f32) (T : Fin 259200) :
    (select (cmpf .oeq (multiReduction .maximumf [1] S259200 (absf X) 0xFF800000#32 reduces_S259200x768_S259200 (.inl rfl) rfl) (broadcast S259200 (Scalar.ofBits (F := Ideal) .f32 0x00000000#32))) (broadcast S259200 (Scalar.ofBits (F := Ideal) .f32 0x3F800000#32)) (divf (multiReduction .maximumf [1] S259200 (absf X) 0xFF800000#32 reduces_S259200x768_S259200 (.inl rfl) rfl) (broadcast S259200 (Scalar.ofBits (F := Ideal) .f32 0x43E00000#32))) (ix1 T) : Ideal .f32)
      = scl fun d => X (ix2 T d) := by
  unfold scl
  rw [← max768]
  exact scale _ _

/-- The quantiser's codes of 192 values. -/
theorem codes192 (X : FVec Ideal S259200x192 .f32) (Y : FVec Ideal S259200 .f32) (T : Fin 259200) (d : Fin 192) :
    (truncf .fp8e4m3 (minimumf (broadcast S259200x192 (Scalar.ofBits (F := Ideal) .f32 0x43E00000#32)) (maximumf (broadcast S259200x192 (Scalar.ofBits (F := Ideal) .f32 0xC3E00000#32)) (divf X (broadcastTo S259200x192 (shapeCast S259200x1 Y shapeCasts_S259200_S259200x1) broadcasts_S259200x1_S259200x192)))) bitsLt_fp8e4m3_f32 (ix2 T d) : EReal) = clip (Ideal.div (X (ix2 T d)) (Y (ix1 T))) := by
  unfold clip
  pointwise

/-- The quantiser's codes of 768 values. -/
theorem codes768 (X : FVec Ideal S259200x768 .f32) (Y : FVec Ideal S259200 .f32) (T : Fin 259200) (d : Fin 768) :
    (truncf .fp8e4m3 (minimumf (broadcast S259200x768 (Scalar.ofBits (F := Ideal) .f32 0x43E00000#32)) (maximumf (broadcast S259200x768 (Scalar.ofBits (F := Ideal) .f32 0xC3E00000#32)) (divf X (broadcastTo S259200x768 (shapeCast S259200x1 Y shapeCasts_S259200_S259200x1) broadcasts_S259200x1_S259200x768)))) bitsLt_fp8e4m3_f32 (ix2 T d) : EReal) = clip (Ideal.div (X (ix2 T d)) (Y (ix1 T))) := by
  unfold clip
  pointwise

/-- The hidden layer's input from the codes and scales. -/
theorem lin768 (X : FVec Ideal S259200x192 .fp8e4m3) (Y : FVec Ideal S259200 .f32) (w : FVec Ideal S192x768 .fp8e4m3) (s b : FVec Ideal S768 .f32) (T : Fin 259200) (d : Fin 768) :
    (addf (mulf (mulf (matmul dot_S259200x192_S192x768_S259200x768_1_0_0_1_n_n none X w (constant S259200x768 .f32 0x00000000#32)) (broadcastTo S259200x768 (shapeCast S259200x1 Y shapeCasts_S259200_S259200x1) broadcasts_S259200x1_S259200x768)) (broadcastTo S259200x768 (shapeCast S1x768 s shapeCasts_S768_S1x768) broadcasts_S1x768_S259200x768)) (broadcastTo S259200x768 (shapeCast S1x768 b shapeCasts_S768_S1x768) broadcasts_S1x768_S259200x768) (ix2 T d) : EReal)
      = (∑ j, X (ix2 T j) * w (ix2 j d)) * Y (ix1 T) * s (ix1 d) + b (ix1 d) := by
  pointwise

/-- The MLP's output from the codes and scales. -/
theorem lin192 (X : FVec Ideal S259200x768 .fp8e4m3) (Y : FVec Ideal S259200 .f32) (w : FVec Ideal S768x192 .fp8e4m3) (s b : FVec Ideal S192 .f32) (T : Fin 259200) (d : Fin 192) :
    (addf (mulf (mulf (matmul dot_S259200x768_S768x192_S259200x192_1_0_0_1_n_n none X w (constant S259200x192 .f32 0x00000000#32)) (broadcastTo S259200x192 (shapeCast S259200x1 Y shapeCasts_S259200_S259200x1) broadcasts_S259200x1_S259200x192)) (broadcastTo S259200x192 (shapeCast S1x192 s shapeCasts_S192_S1x192) broadcasts_S1x192_S259200x192)) (broadcastTo S259200x192 (shapeCast S1x192 b shapeCasts_S192_S1x192) broadcasts_S1x192_S259200x192) (ix2 T d) : EReal)
      = (∑ j, X (ix2 T j) * w (ix2 j d)) * Y (ix1 T) * s (ix1 d) + b (ix1 d) := by
  pointwise

/-- A token's values less their mean. -/
theorem centred (Z : FVec Ideal S259200x192 .f32) (T : Fin 259200) (d : Fin 192) :
    (subf Z (broadcastTo S259200x192 (divf (shapeCast S259200x1 (multiReduction .add [1] S259200 Z 0x00000000#32 reduces_S259200x192_S259200 (.inl rfl) rfl) shapeCasts_S259200_S259200x1) (broadcast S259200x1 (Scalar.ofBits (F := Ideal) .f32 0x43400000#32))) broadcasts_S259200x1_S259200x192) (ix2 T d) : EReal)
      = Z (ix2 T d) - mean fun d => Z (ix2 T d) := by
  unfold mean
  pointwise

/-- Half of a value. -/
theorem half (X : FVec Ideal S259200x768 .f32) (i : S259200x768.Idx) :
    (mulf (broadcast S259200x768 (Scalar.ofBits (F := Ideal) .f32 0x3F000000#32)) X i : EReal) = Ideal.ofBits .f32 0x3F000000#32 * X i := rfl

/-! ## The payloads -/

/-- The residual stream in the reference's flat order of tokens. -/
theorem p1 (x0 : Vec Ideal S1x8x90x360x192 .bf16) (T : Fin 259200) (d : Fin 192) :
    (k0_pay1 (F := Ideal) x0 (ix2 T d) : EReal) = x0 (ix5 0 ⟨T.val / 32400, by omega⟩ ⟨T.val / 360 % 90, by omega⟩ ⟨T.val % 360, by omega⟩ d) := by
  pointwise [k0_pay1]

/-- The projection's output at a token. -/
def Aj (x1 : Vec Ideal S8x30x3x192x360 .fp8e4m3) (x2 : Vec Ideal S30x3x8x360 .f32) (x3 : Vec Ideal S6x32x192 .fp8e4m3) (x4 x5 : Vec Ideal S192 .f32) (T : Fin 259200) : Fin 192 → EReal :=
  lin (fun k => x1 (ix5 ⟨T.val / 32400, by omega⟩ ⟨T.val / 360 % 90 / 3, by omega⟩ ⟨T.val / 360 % 90 % 3, by omega⟩ k ⟨T.val % 360, by omega⟩))
    (x2 (ix4 ⟨T.val / 360 % 90 / 3, by omega⟩ ⟨T.val / 360 % 90 % 3, by omega⟩ ⟨T.val / 32400, by omega⟩ ⟨T.val % 360, by omega⟩))
    (fun k d => x3 (ix3 ⟨k.val / 32, by omega⟩ ⟨k.val % 32, by omega⟩ d)) (fun d => x4 (ix1 d)) (fun d => x5 (ix1 d))

/-- The projection minus its mean over the features. -/
theorem p2 (x1 : Vec Ideal S8x30x3x192x360 .fp8e4m3) (x2 : Vec Ideal S30x3x8x360 .f32) (x3 : Vec Ideal S6x32x192 .fp8e4m3) (x4 x5 : Vec Ideal S192 .f32) (T : Fin 259200) (d : Fin 192) :
    (k0_pay2 (F := Ideal) x1 x2 x3 x4 x5 (ix2 T d) : EReal) = Aj x1 x2 x3 x4 x5 T d - mean (Aj x1 x2 x3 x4 x5 T) := by
  unfold mean Aj lin
  pointwise [k0_pay2]

/-- The sum of squares of the centred projection. -/
theorem p3 (x1 : Vec Ideal S8x30x3x192x360 .fp8e4m3) (x2 : Vec Ideal S30x3x8x360 .f32) (x3 : Vec Ideal S6x32x192 .fp8e4m3) (x4 x5 : Vec Ideal S192 .f32) (T : Fin 259200) :
    (k0_pay3 (F := Ideal) x1 x2 x3 x4 x5 (ix1 T) : EReal) = ∑ d, k0_pay2 (F := Ideal) x1 x2 x3 x4 x5 (ix2 T d) * k0_pay2 (F := Ideal) x1 x2 x3 x4 x5 (ix2 T d) := by
  pointwise [k0_pay3]

/-- The first residual: the stream plus the layer norm of the projection. -/
theorem p4 (v2 : FVec Ideal S259200x192 .f32) (g b : Vec Ideal S192 .f32) (w : FVec Ideal S259200x192 .f32) (s : FVec Ideal S259200 .f32) (T : Fin 259200) (d : Fin 192) :
    (k0_pay4 (F := Ideal) v2 g b w s (ix2 T d) : EReal) = v2 (ix2 T d) + (Ideal.div (w (ix2 T d)) (Ideal.sqrt (Ideal.div (s (ix1 T)) (Ideal.ofBits .f32 0x43400000#32) + Ideal.ofBits .f32 0x3727C5AC#32)) * g (ix1 d) + b (ix1 d)) := by
  pointwise [k0_pay4]

/-- The scale of the first residual. -/
theorem p5 (v2 : FVec Ideal S259200x192 .f32) (g b : Vec Ideal S192 .f32) (w : FVec Ideal S259200x192 .f32) (s : FVec Ideal S259200 .f32) (T : Fin 259200) :
    (k0_pay5 (F := Ideal) v2 g b w s (ix1 T) : EReal) = scl fun d => k0_pay4 (F := Ideal) v2 g b w s (ix2 T d) := by
  unfold k0_pay5
  exact scale192 (k0_pay4 v2 g b w s) T

/-- The codes of the first residual. -/
theorem p6 (v2 : FVec Ideal S259200x192 .f32) (g b : Vec Ideal S192 .f32) (w : FVec Ideal S259200x192 .f32) (s : FVec Ideal S259200 .f32) (T : Fin 259200) (d : Fin 192) :
    (k0_pay6 (F := Ideal) v2 g b w s (ix2 T d) : EReal) = codD (fun d => k0_pay4 (F := Ideal) v2 g b w s (ix2 T d)) d := by
  unfold codD
  rw [← p5]
  unfold k0_pay6
  exact codes192 (k0_pay4 v2 g b w s) (k0_pay5 v2 g b w s) T d

/-- The first layer of the MLP. -/
theorem p7 (v2 : FVec Ideal S259200x192 .f32) (g b : Vec Ideal S192 .f32) (w : FVec Ideal S259200x192 .f32) (s : FVec Ideal S259200 .f32) (w6 : Vec Ideal S192x768 .fp8e4m3) (s7 s8 : Vec Ideal S768 .f32) (T : Fin 259200) (j : Fin 768) :
    (k0_pay7 (F := Ideal) v2 g b w s w6 s7 s8 (ix2 T j) : EReal)
      = lin (codD fun d => k0_pay4 (F := Ideal) v2 g b w s (ix2 T d)) (scl fun d => k0_pay4 (F := Ideal) v2 g b w s (ix2 T d)) (fun d j => w6 (ix2 d j)) (fun j => s7 (ix1 j)) (fun j => s8 (ix1 j)) j := by
  unfold lin
  simp only [← p6]
  rw [← p5]
  unfold k0_pay7
  exact lin768 (k0_pay6 v2 g b w s) (k0_pay5 v2 g b w s) w6 s7 s8 T j

/-- Half of the first layer's output. -/
theorem p8 (v2 : FVec Ideal S259200x192 .f32) (g b : Vec Ideal S192 .f32) (w : FVec Ideal S259200x192 .f32) (s : FVec Ideal S259200 .f32) (w6 : Vec Ideal S192x768 .fp8e4m3) (s7 s8 : Vec Ideal S768 .f32) (T : Fin 259200) (j : Fin 768) :
    (k0_pay8 (F := Ideal) v2 g b w s w6 s7 s8 (ix2 T j) : EReal) = Ideal.ofBits .f32 0x3F000000#32 * k0_pay7 (F := Ideal) v2 g b w s w6 s7 s8 (ix2 T j) := by
  unfold k0_pay8
  exact half (k0_pay7 v2 g b w s w6 s7 s8) (ix2 T j)

/-- The gelu, from the first layer's output and its half. -/
theorem p9 (u v : FVec Ideal S259200x768 .f32) (T : Fin 259200) (j : Fin 768) :
    (k0_pay9 (F := Ideal) u v (ix2 T j) : EReal) = v (ix2 T j) * (1 + erfE (u (ix2 T j) * rt)) := by
  have h : (Named.named κ "sqrt_half" 0x3F3504F3#32 : Ideal .f32) = rt := IdealRules.named_const.ideal_named_scalar _ _ _ _ rfl
  rw [← h]
  unfold erfE
  pointwise [k0_pay9]

/-- The scale of the hidden layer. -/
theorem p10 (u v : FVec Ideal S259200x768 .f32) (T : Fin 259200) :
    (k0_pay10 (F := Ideal) u v (ix1 T) : EReal) = scl fun j => k0_pay9 (F := Ideal) u v (ix2 T j) := by
  unfold k0_pay10
  exact scale768 (k0_pay9 u v) T

/-- The codes of the hidden layer. -/
theorem p11 (u v : FVec Ideal S259200x768 .f32) (T : Fin 259200) (j : Fin 768) :
    (k0_pay11 (F := Ideal) u v (ix2 T j) : EReal) = codD (fun j => k0_pay9 (F := Ideal) u v (ix2 T j)) j := by
  unfold codD
  rw [← p10]
  unfold k0_pay11
  exact codes768 (k0_pay9 u v) (k0_pay10 u v) T j

/-- The second layer of the MLP minus its mean over the features. -/
theorem p12 (u v : FVec Ideal S259200x768 .f32) (w : Vec Ideal S768x192 .fp8e4m3) (s b : Vec Ideal S192 .f32) (T : Fin 259200) (d : Fin 192) :
    (k0_pay12 (F := Ideal) u v w s b (ix2 T d) : EReal)
      = mlp (fun j => k0_pay9 (F := Ideal) u v (ix2 T j)) (fun j d => w (ix2 j d)) (fun d => s (ix1 d)) (fun d => b (ix1 d)) d
        - mean (mlp (fun j => k0_pay9 (F := Ideal) u v (ix2 T j)) (fun j d => w (ix2 j d)) (fun d => s (ix1 d)) (fun d => b (ix1 d))) := by
  unfold mlp lin
  simp only [← p11]
  rw [← p10]
  unfold k0_pay12
  refine (centred _ T d).trans ?_
  simp only [lin192]

/-- The position of a token in the reference's flat order. -/
def tok (l : Fin 8) (t : Fin 90) (n : Fin 360) : Fin 259200 := ⟨l.val * 32400 + t.val * 360 + n.val, by omega⟩

/-- The second residual in the layout of the result. -/
theorem p13 (u : FVec Ideal S259200x192 .f32) (s b : Vec Ideal S192 .f32) (v : FVec Ideal S259200x192 .f32) (l : Fin 8) (t : Fin 90) (d : Fin 192) (n : Fin 360) :
    (k0_pay13 (F := Ideal) u s b v (ix4 l t d n) : EReal)
      = u (ix2 (tok l t n) d)
        + (Ideal.div (v (ix2 (tok l t n) d)) (Ideal.sqrt (Ideal.div (∑ x, v (ix2 (tok l t n) x) * v (ix2 (tok l t n) x)) (Ideal.ofBits .f32 0x43400000#32) + Ideal.ofBits .f32 0x3727C5AC#32)) * s (ix1 d) + b (ix1 d)) := by
  pointwise [k0_pay13, tok]

/-- The codes of the MLP's input in the layout of the result. -/
theorem p14 (u : FVec Ideal S259200x192 .fp8e4m3) (l : Fin 8) (t : Fin 90) (d : Fin 192) (n : Fin 360) :
    (k0_pay14 (F := Ideal) u (ix4 l t d n) : EReal) = u (ix2 ⟨l.val * 32400 + t.val * 360 + n.val, by omega⟩ d) := by
  pointwise [k0_pay14]

/-- The scales of the MLP's input in the layout of the result. -/
theorem p15 (u : FVec Ideal S259200 .f32) (t : Fin 90) (l : Fin 8) (n : Fin 360) :
    (k0_pay15 (F := Ideal) u (ix3 t l n) : EReal) = u (ix1 ⟨l.val * 32400 + t.val * 360 + n.val, by omega⟩) := by
  pointwise [k0_pay15]

/-- The codes of the hidden layer in the layout of the result. -/
theorem p16 (u : FVec Ideal S259200x768 .fp8e4m3) (l : Fin 8) (t : Fin 90) (n : Fin 360) (d : Fin 768) :
    (k0_pay16 (F := Ideal) u (ix4 l t n d) : EReal) = u (ix2 ⟨l.val * 32400 + t.val * 360 + n.val, by omega⟩ d) := by
  pointwise [k0_pay16]

/-- The scales of the hidden layer in the layout of the result. -/
theorem p17 (u : FVec Ideal S259200 .f32) (t : Fin 90) (l : Fin 8) (n : Fin 360) :
    (k0_pay17 (F := Ideal) u (ix3 t l n) : EReal) = u (ix1 ⟨l.val * 32400 + t.val * 360 + n.val, by omega⟩) := by
  pointwise [k0_pay17]

/-! ## The values of a token -/

/-- The arguments read as numbers. -/
def args (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) : Args where
  x l t n d := a0 (ix5 0 l t n d)
  o l t n k := a1 (ix5 l ⟨t.val / 3, by omega⟩ ⟨t.val % 3, by omega⟩ k n)
  os l t n := a2 (ix4 ⟨t.val / 3, by omega⟩ ⟨t.val % 3, by omega⟩ l n)
  wp k d := a3 (ix3 ⟨k.val / 32, by omega⟩ ⟨k.val % 32, by omega⟩ d)
  sp d := a4 (ix1 d)
  bp d := a5 (ix1 d)
  w1 d j := a6 (ix2 d j)
  s1 j := a7 (ix1 j)
  b1 j := a8 (ix1 j)
  w2 j d := a9 (ix2 j d)
  s2 d := a10 (ix1 d)
  b2 d := a11 (ix1 d)
  g1 d := a12 (ix1 d)
  n1 d := a13 (ix1 d)
  g2 d := a14 (ix1 d)
  n2 d := a15 (ix1 d)

/-- The level of a token from its position. -/
theorem tok_l (l : Fin 8) (t : Fin 90) (n : Fin 360) (h) : (⟨(tok l t n).val / 32400, h⟩ : Fin 8) = l := by
  apply Fin.ext; show (l.val * 32400 + t.val * 360 + n.val) / 32400 = l.val; omega

/-- The latitude of a token from its position. -/
theorem tok_t (l : Fin 8) (t : Fin 90) (n : Fin 360) : (tok l t n).val / 360 % 90 = t.val := by
  show (l.val * 32400 + t.val * 360 + n.val) / 360 % 90 = t.val; omega

/-- The longitude of a token from its position. -/
theorem tok_n (l : Fin 8) (t : Fin 90) (n : Fin 360) (h) : (⟨(tok l t n).val % 360, h⟩ : Fin 360) = n := by
  apply Fin.ext; show (l.val * 32400 + t.val * 360 + n.val) % 360 = n.val; omega

/-- The projection at a token's position is the projection of the token. -/
theorem Aj_eq (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) (l : Fin 8) (t : Fin 90) (n : Fin 360) :
    Aj a1 a2 a3 a4 a5 (tok l t n) = tokA (args a0 a1 a2 a3 a4 a5 a6 a7 a8 a9 a10 a11 a12 a13 a14 a15) l t n := by
  unfold Aj tokA args
  simp only [tok_l, tok_n, tok_t]

/-- The first residual of a token, over the reference's values. -/
theorem pX (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) (l : Fin 8) (t : Fin 90) (n : Fin 360) (d : Fin 192) :
    (k0_pay4 (F := Ideal) (k0_pay1 a0) a12 a13 (k0_pay2 a1 a2 a3 a4 a5) (k0_pay3 a1 a2 a3 a4 a5) (ix2 (tok l t n) d) : EReal)
      = tokX (args a0 a1 a2 a3 a4 a5 a6 a7 a8 a9 a10 a11 a12 a13 a14 a15) l t n d := by
  unfold tokX nrmD vare
  rw [p4, p1, p3]
  simp only [p2, tok_l, tok_n, tok_t, Aj_eq a0 a1 a2 a3 a4 a5 a6 a7 a8 a9 a10 a11 a12 a13 a14 a15]
  rfl

/-- The hidden values of a token from the two values the reference keeps. -/
theorem pH (v2 : FVec Ideal S259200x192 .f32) (g b : Vec Ideal S192 .f32) (w : FVec Ideal S259200x192 .f32) (s : FVec Ideal S259200 .f32) (w6 : Vec Ideal S192x768 .fp8e4m3) (s7 s8 : Vec Ideal S768 .f32) (T : Fin 259200) (j : Fin 768) :
    (k0_pay9 (F := Ideal) (k0_pay7 v2 g b w s w6 s7 s8) (k0_pay8 v2 g b w s w6 s7 s8) (ix2 T j) : EReal)
      = hid (fun d => k0_pay4 (F := Ideal) v2 g b w s (ix2 T d)) (fun d j => w6 (ix2 d j)) (fun j => s7 (ix1 j)) (fun j => s8 (ix1 j)) j := by
  unfold hid gelu
  rw [p9, p8, p7]

/-- The residual stream as the body computes it from its whole blocks. -/
theorem e18 (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) : k0_pay18 (F := Ideal) a0 a1 a2 a3 a4 a5 a6 a7 a8 a9 a10 a11 a12 a13 a14 a15 = k0_pay1 a0 := by
  unfold k0_pay18
  rw [View.ld_unit_zero (S := S1x8x90x360x192) Value.hz0 _ a0]

/-- The centred projection as the body computes it from its whole blocks. -/
theorem e19 (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) : k0_pay19 (F := Ideal) a0 a1 a2 a3 a4 a5 a6 a7 a8 a9 a10 a11 a12 a13 a14 a15 = k0_pay2 a1 a2 a3 a4 a5 := by
  unfold k0_pay19
  rw [View.ld_unit_zero (S := S8x30x3x192x360) Value.hz1 _ a1, View.ld_unit_zero (S := S30x3x8x360) Value.hz2 _ a2, View.ld_unit_zero (S := S6x32x192) Value.hz3 _ a3, View.ld_unit_zero (S := S192) Value.hz4 _ a4, View.ld_unit_zero (S := S192) Value.hz5 _ a5]

/-- The sum of squares as the body computes it from its whole blocks. -/
theorem e20 (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) : k0_pay20 (F := Ideal) a0 a1 a2 a3 a4 a5 a6 a7 a8 a9 a10 a11 a12 a13 a14 a15 = k0_pay3 a1 a2 a3 a4 a5 := by
  unfold k0_pay20
  rw [View.ld_unit_zero (S := S8x30x3x192x360) Value.hz1 _ a1, View.ld_unit_zero (S := S30x3x8x360) Value.hz2 _ a2, View.ld_unit_zero (S := S6x32x192) Value.hz3 _ a3, View.ld_unit_zero (S := S192) Value.hz4 _ a4, View.ld_unit_zero (S := S192) Value.hz5 _ a5]

/-- The first layer's output as the body computes it from its whole blocks. -/
theorem e21 (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) : k0_pay21 (F := Ideal) a0 a1 a2 a3 a4 a5 a6 a7 a8 a9 a10 a11 a12 a13 a14 a15 = k0_pay7 (k0_pay1 a0) a12 a13 (k0_pay2 a1 a2 a3 a4 a5) (k0_pay3 a1 a2 a3 a4 a5) a6 a7 a8 := by
  unfold k0_pay21
  rw [e18, e19, e20, View.ld_unit_zero (S := S192) Value.hz12 _ a12, View.ld_unit_zero (S := S192) Value.hz13 _ a13, View.ld_unit_zero (S := S192x768) Value.hz6 _ a6, View.ld_unit_zero (S := S768) Value.hz7 _ a7, View.ld_unit_zero (S := S768) Value.hz8 _ a8]

/-- Half of the first layer's output as the body computes it from its whole blocks. -/
theorem e22 (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) : k0_pay22 (F := Ideal) a0 a1 a2 a3 a4 a5 a6 a7 a8 a9 a10 a11 a12 a13 a14 a15 = k0_pay8 (k0_pay1 a0) a12 a13 (k0_pay2 a1 a2 a3 a4 a5) (k0_pay3 a1 a2 a3 a4 a5) a6 a7 a8 := by
  unfold k0_pay22
  rw [e18, e19, e20, View.ld_unit_zero (S := S192) Value.hz12 _ a12, View.ld_unit_zero (S := S192) Value.hz13 _ a13, View.ld_unit_zero (S := S192x768) Value.hz6 _ a6, View.ld_unit_zero (S := S768) Value.hz7 _ a7, View.ld_unit_zero (S := S768) Value.hz8 _ a8]

/-- The hidden values of a token, over the reference's values. -/
theorem pHid (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) (l : Fin 8) (t : Fin 90) (n : Fin 360) (j : Fin 768) :
    (k0_pay9 (F := Ideal) (k0_pay7 (k0_pay1 a0) a12 a13 (k0_pay2 a1 a2 a3 a4 a5) (k0_pay3 a1 a2 a3 a4 a5) a6 a7 a8) (k0_pay8 (k0_pay1 a0) a12 a13 (k0_pay2 a1 a2 a3 a4 a5) (k0_pay3 a1 a2 a3 a4 a5) a6 a7 a8) (ix2 (tok l t n) j) : EReal)
      = tokH (args a0 a1 a2 a3 a4 a5 a6 a7 a8 a9 a10 a11 a12 a13 a14 a15) l t n j := by
  rw [pH]
  simp only [pX a0 a1 a2 a3 a4 a5 a6 a7 a8 a9 a10 a11 a12 a13 a14 a15]
  rfl

/-! ## The results -/

/-- The result y. -/
theorem g16 (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) (l : Fin 8) (t : Fin 90) (d : Fin 192) (n : Fin 360) :
    (Value.G16 (F := Ideal) a0 a1 a2 a3 a4 a5 a6 a7 a8 a9 a10 a11 a12 a13 a14 a15 (ix4 l t d n) : EReal) = tokY (args a0 a1 a2 a3 a4 a5 a6 a7 a8 a9 a10 a11 a12 a13 a14 a15) l t n d := by
  unfold Value.G16
  rw [e18, e19, e20, e21, e22, p13]
  unfold tokY nrmD vare
  rw [pX a0 a1 a2 a3 a4 a5 a6 a7 a8 a9 a10 a11 a12 a13 a14 a15]
  simp only [p12, pHid a0 a1 a2 a3 a4 a5 a6 a7 a8 a9 a10 a11 a12 a13 a14 a15]
  rfl

/-- The codes of the MLP's input. -/
theorem g17 (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) (l : Fin 8) (t : Fin 90) (d : Fin 192) (n : Fin 360) :
    (Value.G17 (F := Ideal) a0 a1 a2 a3 a4 a5 a6 a7 a8 a9 a10 a11 a12 a13 a14 a15 (ix4 l t d n) : EReal) = codD (tokX (args a0 a1 a2 a3 a4 a5 a6 a7 a8 a9 a10 a11 a12 a13 a14 a15) l t n) d := by
  unfold Value.G17
  rw [e18, e19, e20, p14]
  refine (p6 _ _ _ _ _ (tok l t n) d).trans ?_
  simp only [pX a0 a1 a2 a3 a4 a5 a6 a7 a8 a9 a10 a11 a12 a13 a14 a15]

/-- The scales of the MLP's input. -/
theorem g18 (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) (t : Fin 90) (l : Fin 8) (n : Fin 360) :
    (Value.G18 (F := Ideal) a0 a1 a2 a3 a4 a5 a6 a7 a8 a9 a10 a11 a12 a13 a14 a15 (ix3 t l n) : EReal) = scl (tokX (args a0 a1 a2 a3 a4 a5 a6 a7 a8 a9 a10 a11 a12 a13 a14 a15) l t n) := by
  unfold Value.G18
  rw [e18, e19, e20, p15]
  refine (p5 _ _ _ _ _ (tok l t n)).trans ?_
  simp only [pX a0 a1 a2 a3 a4 a5 a6 a7 a8 a9 a10 a11 a12 a13 a14 a15]

/-- The hidden codes. -/
theorem g19 (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) (l : Fin 8) (t : Fin 90) (n : Fin 360) (j : Fin 768) :
    (Value.G19 (F := Ideal) a0 a1 a2 a3 a4 a5 a6 a7 a8 a9 a10 a11 a12 a13 a14 a15 (ix4 l t n j) : EReal) = codD (tokH (args a0 a1 a2 a3 a4 a5 a6 a7 a8 a9 a10 a11 a12 a13 a14 a15) l t n) j := by
  unfold Value.G19
  rw [e21, e22, p16]
  refine (p11 _ _ (tok l t n) j).trans ?_
  simp only [pHid a0 a1 a2 a3 a4 a5 a6 a7 a8 a9 a10 a11 a12 a13 a14 a15]

/-- The hidden scales. -/
theorem g20 (a0 : Vec Ideal S1x8x90x360x192 .bf16) (a1 : Vec Ideal S8x30x3x192x360 .fp8e4m3) (a2 : Vec Ideal S30x3x8x360 .f32) (a3 : Vec Ideal S6x32x192 .fp8e4m3) (a4 : Vec Ideal S192 .f32) (a5 : Vec Ideal S192 .f32) (a6 : Vec Ideal S192x768 .fp8e4m3) (a7 : Vec Ideal S768 .f32) (a8 : Vec Ideal S768 .f32) (a9 : Vec Ideal S768x192 .fp8e4m3) (a10 : Vec Ideal S192 .f32) (a11 : Vec Ideal S192 .f32) (a12 : Vec Ideal S192 .f32) (a13 : Vec Ideal S192 .f32) (a14 : Vec Ideal S192 .f32) (a15 : Vec Ideal S192 .f32) (t : Fin 90) (l : Fin 8) (n : Fin 360) :
    (Value.G20 (F := Ideal) a0 a1 a2 a3 a4 a5 a6 a7 a8 a9 a10 a11 a12 a13 a14 a15 (ix3 t l n) : EReal) = scl (tokH (args a0 a1 a2 a3 a4 a5 a6 a7 a8 a9 a10 a11 a12 a13 a14 a15) l t n) := by
  unfold Value.G20
  rw [e21, e22, p17]
  refine (p10 _ _ (tok l t n)).trans ?_
  simp only [pHid a0 a1 a2 a3 a4 a5 a6 a7 a8 a9 a10 a11 a12 a13 a14 a15]

end Cert.Proof.Ref

end
-- ==== Proof.KernelIdeal.Final.lean ====
/- The kernel's result arrays after the run: the reference's results. -/
module

public import proofs.«01_k».proof.Proof.KernelIdeal.Run
public import proofs.«01_k».proof.Proof.Ref.Spec

@[expose] public section

set_option maxRecDepth 16384

noncomputable section

namespace Cert.Proof.KernelIdeal

open Cert.KernelIdeal
open Idealize.ShloMosaic Idealize.ShloMosaic.TcCoe Idealize.ShloMosaic.Tactic
open Cert.Proof.Tok Cert.Proof.Spec

variable (m : (ℓ : Loc nD τ sig) → Buf (Elt Ideal) ℓ) (c : Dev nD) (t : Fin cfg0.N)

/-- The call's arguments read as numbers. -/
def PK : Args := Ref.args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The named constant of the kernel is the square root of one half. -/
theorem rt_eq : Cert.Proof.KernelIdeal.rt = Spec.rt := IdealRules.named_const.ideal_named_scalar _ _ _ _ rfl

/-- The kernel's projection of a token is the reference's, whatever lane the columns are read at. -/
theorem kA (l : Fin 8) (n : Fin 360) (p : Fin 128) : A (Gen.iblk m c 1 t) (Gen.iblk m c 2 t) (Gen.iblk m c 3 t) (Gen.iblk m c 6 t) l n p = tokA (PK m c) l (lat t) n := by
  funext d
  unfold A tokA lin
  rw [blk2, blk6_0, blk6_1]
  simp only [blk1, blk3]
  rw [Finset.sum_congr rfl fun e _ => mul_comm _ _]
  rfl

/-- The kernel's first residual of a token is the reference's. -/
theorem kX (l : Fin 8) (n : Fin 360) (p : Fin 128) : X (Gen.iblk m c 0 t) (Gen.iblk m c 1 t) (Gen.iblk m c 2 t) (Gen.iblk m c 3 t) (Gen.iblk m c 6 t) l n p = tokX (PK m c) l (lat t) n := by
  funext d
  unfold X tokX
  rw [blk0, kA, nrm_eq]
  simp only [blk6_2, blk6_3]
  rfl

/-- The kernel's input of the error function, over the reference's first residual. -/
theorem kU (l : Fin 8) (n : Fin 360) (p : Fin 128) (j : Fin 768) :
    U (Gen.iblk m c 0 t) (Gen.iblk m c 1 t) (Gen.iblk m c 2 t) (Gen.iblk m c 3 t) (Gen.iblk m c 4 t) (Gen.iblk m c 6 t) (Gen.iblk m c 7 t) l n p j = uK (tokX (PK m c) l (lat t) n) (PK m c).w1 (PK m c).s1 (PK m c).b1 j := by
  unfold U uK
  rw [kX, rt_eq, blk7_0, blk7_1]
  simp only [blk4]
  rfl

/-- The kernel's hidden values before their factor, over the reference's first residual. -/
theorem kG (l : Fin 8) (n : Fin 360) (p : Fin 128) :
    G (Gen.iblk m c 0 t) (Gen.iblk m c 1 t) (Gen.iblk m c 2 t) (Gen.iblk m c 3 t) (Gen.iblk m c 4 t) (Gen.iblk m c 6 t) (Gen.iblk m c 7 t) l n p = gK (tokX (PK m c) l (lat t) n) (PK m c).w1 (PK m c).s1 (PK m c).b1 := by
  funext j
  unfold G gK
  rw [kU]
  rfl

/-- The kernel's scale of a token's hidden layer is the reference's. -/
theorem kHS (l : Fin 8) (n : Fin 360) (p : Fin 128) : HS (Gen.iblk m c 0 t) (Gen.iblk m c 1 t) (Gen.iblk m c 2 t) (Gen.iblk m c 3 t) (Gen.iblk m c 4 t) (Gen.iblk m c 6 t) (Gen.iblk m c 7 t) l n p = scl (tokH (PK m c) l (lat t) n) := by
  unfold HS
  rw [kG, rt_eq]
  exact hs_eq _ _ _ _

/-- The kernel's codes of a token's hidden layer are the reference's. -/
theorem kC (l : Fin 8) (n : Fin 360) (p : Fin 128) (j : Fin 768) :
    cod (G (Gen.iblk m c 0 t) (Gen.iblk m c 1 t) (Gen.iblk m c 2 t) (Gen.iblk m c 3 t) (Gen.iblk m c 4 t) (Gen.iblk m c 6 t) (Gen.iblk m c 7 t) l n p) j = codD (tokH (PK m c) l (lat t) n) j := by
  rw [kG]
  exact hc_eq _ _ _ _ _

/-- The kernel's MLP of a token, before its layer norm, is the reference's. -/
theorem kF (l : Fin 8) (n : Fin 360) (p : Fin 128) :
    Fv (Gen.iblk m c 0 t) (Gen.iblk m c 1 t) (Gen.iblk m c 2 t) (Gen.iblk m c 3 t) (Gen.iblk m c 4 t) (Gen.iblk m c 5 t) (Gen.iblk m c 6 t) (Gen.iblk m c 7 t) l n p = mlp (tokH (PK m c) l (lat t) n) (PK m c).w2 (PK m c).s2 (PK m c).b2 := by
  funext d
  unfold Fv mlp lin
  rw [kHS, blk6_4, blk6_5]
  simp only [kC, blk5]
  rw [Finset.sum_congr rfl fun e _ => mul_comm _ _]
  rfl

/-- The kernel's second residual of a token is the reference's. -/
theorem kY (l : Fin 8) (n : Fin 360) (p : Fin 128) (d : Fin 192) :
    Y (Gen.iblk m c 0 t) (Gen.iblk m c 1 t) (Gen.iblk m c 2 t) (Gen.iblk m c 3 t) (Gen.iblk m c 4 t) (Gen.iblk m c 5 t) (Gen.iblk m c 6 t) (Gen.iblk m c 7 t) l n p d = tokY (PK m c) l (lat t) n d := by
  unfold Y tokY
  rw [kX, kF, nrm_eq]
  simp only [blk6_6, blk6_7]
  rfl

/-- The result y. -/
theorem final9 : (dats m 0 c).arrAt 9 cfg0.N = Cert.ReferenceIdeal.Value.G16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 9 _ (by decide +kernel) fun t hf y => ?_
  idx_vars y
  blk_simp [idx t]
  rw [after_9]
  refine Eq.trans (b := Cert.ReferenceIdeal.Value.G16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix4 y0 (lat t) y2 y3)) ?_ ?_
  · refine Eq.trans ?_ (Ref.g16 _ _ _ _ _ _ _ _ _ _ _ _ _ _ _ _ y0 (lat t) y2 y3).symm
    exact kY m c t y0 y3 (lane y3) y2
  · generalize Cert.ReferenceIdeal.Value.G16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = W
    blk_ext [idx t, lat]

/-- The codes of the MLP's input. -/
theorem final10 : (dats m 0 c).arrAt 10 cfg0.N = Cert.ReferenceIdeal.Value.G17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 10 _ (by decide +kernel) fun t hf y => ?_
  idx_vars y
  blk_simp [idx t]
  rw [after_10]
  refine Eq.trans (b := Cert.ReferenceIdeal.Value.G17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix4 y0 (lat t) y2 y3)) ?_ ?_
  · refine Eq.trans ?_ (Ref.g17 _ _ _ _ _ _ _ _ _ _ _ _ _ _ _ _ y0 (lat t) y2 y3).symm
    exact (cod_eq _ _).trans (congrArg (fun v => codD v y2) (kX m c t y0 y3 (lane y3)))
  · generalize Cert.ReferenceIdeal.Value.G17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = W
    blk_ext [idx t, lat]

/-- The scales of the MLP's input. -/
theorem final11 : (dats m 0 c).arrAt 11 cfg0.N = Cert.ReferenceIdeal.Value.G18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 11 _ (by decide +kernel) fun t hf y => ?_
  idx_vars y
  blk_simp [idx t]
  rw [after_11]
  refine Eq.trans (b := Cert.ReferenceIdeal.Value.G18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix3 (lat t) y1 y2)) ?_ ?_
  · refine Eq.trans ?_ (Ref.g18 _ _ _ _ _ _ _ _ _ _ _ _ _ _ _ _ (lat t) y1 y2).symm
    exact congrArg scl (kX m c t y1 y2 (lane y2))
  · generalize Cert.ReferenceIdeal.Value.G18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = W
    blk_ext [idx t, lat]

/-- The hidden codes. -/
theorem final12 : (dats m 0 c).arrAt 12 cfg0.N = Cert.ReferenceIdeal.Value.G19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 12 _ (by decide +kernel) fun t hf y => ?_
  idx_vars y
  blk_simp [idx t]
  rw [after_12]
  refine Eq.trans (b := Cert.ReferenceIdeal.Value.G19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix4 y0 (lat t) y2 y3)) ?_ ?_
  · refine Eq.trans ?_ (Ref.g19 _ _ _ _ _ _ _ _ _ _ _ _ _ _ _ _ y0 (lat t) y2 y3).symm
    exact kC m c t y0 y2 (lane y2) y3
  · generalize Cert.ReferenceIdeal.Value.G19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = W
    blk_ext [idx t, lat]

/-- The hidden scales. -/
theorem final13 : (dats m 0 c).arrAt 13 cfg0.N = Cert.ReferenceIdeal.Value.G20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 13 _ (by decide +kernel) fun t hf y => ?_
  idx_vars y
  blk_simp [idx t]
  rw [after_13]
  refine Eq.trans (b := Cert.ReferenceIdeal.Value.G20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix3 (lat t) y1 y2)) ?_ ?_
  · refine Eq.trans ?_ (Ref.g20 _ _ _ _ _ _ _ _ _ _ _ _ _ _ _ _ (lat t) y1 y2).symm
    exact kHS m c t y1 y2 (lane y2)
  · generalize Cert.ReferenceIdeal.Value.G20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = W
    blk_ext [idx t, lat]

end Cert.Proof.KernelIdeal

end
-- ==== Proof.KernelIdeal.Claim.lean ====
/- What the kernel's run at the extended reals leaves: its results, its arguments unchanged, and every counter at zero. -/
module

public import proofs.«01_k».proof.Proof.KernelIdeal.Final

@[expose] public section

set_option maxRecDepth 16384

noncomputable section

namespace Cert.Proof.KernelIdeal

open Cert.KernelIdeal
open Idealize.ShloMosaic Idealize.ShloMosaic.TcCoe Idealize.SL.Sem

variable (m : (ℓ : Loc nD τ sig) → Buf (Elt Ideal) ℓ) (ρ : Dev nD → PrngReg)

/-- The arguments end unchanged, and every counter reads zero. -/
theorem frame_claim : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ hh => ⟨fun c => have h := hh.1; ⟨((h c).2 main_arg0 (Pipeline.mem_restRefs_of main_arg0 (by decide) (by decide))).trans (Gen.V_main_arg0 m c),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c),
      ((h c).2 main_arg3 (Pipeline.mem_restRefs_of main_arg3 (by decide) (by decide))).trans (Gen.V_main_arg3 m c),
      ((h c).2 main_arg4 (Pipeline.mem_restRefs_of main_arg4 (by decide) (by decide))).trans (Gen.V_main_arg4 m c),
      ((h c).2 main_arg5 (Pipeline.mem_restRefs_of main_arg5 (by decide) (by decide))).trans (Gen.V_main_arg5 m c),
      ((h c).1 4).trans (((dats m 0 c).arrAt_in 4 rfl _).trans ((A_eq m c 4).trans (Gen.V_main_arg6 m c))),
      ((h c).2 main_arg7 (Pipeline.mem_restRefs_of main_arg7 (by decide) (by decide))).trans (Gen.V_main_arg7 m c),
      ((h c).2 main_arg8 (Pipeline.mem_restRefs_of main_arg8 (by decide) (by decide))).trans (Gen.V_main_arg8 m c),
      ((h c).2 main_arg9 (Pipeline.mem_restRefs_of main_arg9 (by decide) (by decide))).trans (Gen.V_main_arg9 m c),
      ((h c).2 main_arg10 (Pipeline.mem_restRefs_of main_arg10 (by decide) (by decide))).trans (Gen.V_main_arg10 m c),
      ((h c).2 main_arg11 (Pipeline.mem_restRefs_of main_arg11 (by decide) (by decide))).trans (Gen.V_main_arg11 m c),
      ((h c).2 main_arg12 (Pipeline.mem_restRefs_of main_arg12 (by decide) (by decide))).trans (Gen.V_main_arg12 m c),
      ((h c).2 main_arg13 (Pipeline.mem_restRefs_of main_arg13 (by decide) (by decide))).trans (Gen.V_main_arg13 m c),
      ((h c).2 main_arg14 (Pipeline.mem_restRefs_of main_arg14 (by decide) (by decide))).trans (Gen.V_main_arg14 m c),
      ((h c).2 main_arg15 (Pipeline.mem_restRefs_of main_arg15 (by decide) (by decide))).trans (Gen.V_main_arg15 m c)⟩, hh.2⟩) (run_main_quiescent m ρ)

/-- The results are the reference's results of the arguments, and the arguments end unchanged. -/
theorem value_claim : θ_run defs (onTc (τ := τ) (main (F := Ideal))) ⟨m, fun _ => 0, ρ⟩ (fun r => ∀ c : Dev nD,
      r.2.mem ((c.tc : Thread nD τ).loc main_v41_0) = Cert.ReferenceIdeal.Value.G16 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v41_1) = Cert.ReferenceIdeal.Value.G17 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v41_2) = Cert.ReferenceIdeal.Value.G18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v41_3) = Cert.ReferenceIdeal.Value.G19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v41_4) = Cert.ReferenceIdeal.Value.G20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ hh c => have h := hh.1; ⟨((h c).1 9).trans (final9 m c),
      ((h c).1 10).trans (final10 m c),
      ((h c).1 11).trans (final11 m c),
      ((h c).1 12).trans (final12 m c),
      ((h c).1 13).trans (final13 m c),
      ((h c).2 main_arg0 (Pipeline.mem_restRefs_of main_arg0 (by decide) (by decide))).trans (Gen.V_main_arg0 m c),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c),
      ((h c).2 main_arg3 (Pipeline.mem_restRefs_of main_arg3 (by decide) (by decide))).trans (Gen.V_main_arg3 m c),
      ((h c).2 main_arg4 (Pipeline.mem_restRefs_of main_arg4 (by decide) (by decide))).trans (Gen.V_main_arg4 m c),
      ((h c).2 main_arg5 (Pipeline.mem_restRefs_of main_arg5 (by decide) (by decide))).trans (Gen.V_main_arg5 m c),
      ((h c).1 4).trans (((dats m 0 c).arrAt_in 4 rfl _).trans ((A_eq m c 4).trans (Gen.V_main_arg6 m c))),
      ((h c).2 main_arg7 (Pipeline.mem_restRefs_of main_arg7 (by decide) (by decide))).trans (Gen.V_main_arg7 m c),
      ((h c).2 main_arg8 (Pipeline.mem_restRefs_of main_arg8 (by decide) (by decide))).trans (Gen.V_main_arg8 m c),
      ((h c).2 main_arg9 (Pipeline.mem_restRefs_of main_arg9 (by decide) (by decide))).trans (Gen.V_main_arg9 m c),
      ((h c).2 main_arg10 (Pipeline.mem_restRefs_of main_arg10 (by decide) (by decide))).trans (Gen.V_main_arg10 m c),
      ((h c).2 main_arg11 (Pipeline.mem_restRefs_of main_arg11 (by decide) (by decide))).trans (Gen.V_main_arg11 m c),
      ((h c).2 main_arg12 (Pipeline.mem_restRefs_of main_arg12 (by decide) (by decide))).trans (Gen.V_main_arg12 m c),
      ((h c).2 main_arg13 (Pipeline.mem_restRefs_of main_arg13 (by decide) (by decide))).trans (Gen.V_main_arg13 m c),
      ((h c).2 main_arg14 (Pipeline.mem_restRefs_of main_arg14 (by decide) (by decide))).trans (Gen.V_main_arg14 m c),
      ((h c).2 main_arg15 (Pipeline.mem_restRefs_of main_arg15 (by decide) (by decide))).trans (Gen.V_main_arg15 m c)⟩) (run_main_quiescent m ρ)

end Cert.Proof.KernelIdeal

end
-- ==== Proof.lean ====
/- The proof of the certificate's claims: the frames of the kernel, of its reading at the extended reals, and of the reference, and
   the one constant which the reading names, and the equality of the kernel's results with the reference's. -/
module

public import proofs.«01_k».proof.Proof.Gen.ReferenceIdeal.Value
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Reference
public import proofs.«01_k».proof.Proof.Gen.Reference.Frame
public import proofs.«01_k».proof.Proof.Kernel.Run
public import proofs.«01_k».proof.Proof.KernelIdeal.Claim

@[expose] public section

noncomputable section

namespace Cert.Proof

open Idealize.ShloMosaic Idealize.SL.Sem

/-- Equal arguments give equal values of the reference's first result: the result y. -/
theorem G16_congr {a0 b0 : Vec Ideal Cert.ReferenceIdeal.S1x8x90x360x192 .bf16} {a1 b1 : Vec Ideal Cert.ReferenceIdeal.S8x30x3x192x360 .fp8e4m3} {a2 b2 : Vec Ideal Cert.ReferenceIdeal.S30x3x8x360 .f32} {a3 b3 : Vec Ideal Cert.ReferenceIdeal.S6x32x192 .fp8e4m3} {a4 b4 : Vec Ideal Cert.ReferenceIdeal.S192 .f32} {a5 b5 : Vec Ideal Cert.ReferenceIdeal.S192 .f32} {a6 b6 : Vec Ideal Cert.ReferenceIdeal.S192x768 .fp8e4m3} {a7 b7 : Vec Ideal Cert.ReferenceIdeal.S768 .f32} {a8 b8 : Vec Ideal Cert.ReferenceIdeal.S768 .f32} {a9 b9 : Vec Ideal Cert.ReferenceIdeal.S768x192 .fp8e4m3} {a10 b10 : Vec Ideal Cert.ReferenceIdeal.S192 .f32} {a11 b11 : Vec Ideal Cert.ReferenceIdeal.S192 .f32} {a12 b12 : Vec Ideal Cert.ReferenceIdeal.S192 .f32} {a13 b13 : Vec Ideal Cert.ReferenceIdeal.S192 .f32} {a14 b14 : Vec Ideal Cert.ReferenceIdeal.S192 .f32} {a15 b15 : Vec Ideal Cert.ReferenceIdeal.S192 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    Cert.ReferenceIdeal.Value.G16 (F := Ideal) a0 a1 a2 a3 a4 a5 a6 a7 a8 a9 a10 a11 a12 a13 a14 a15 = Cert.ReferenceIdeal.Value.G16 b0 b1 b2 b3 b4 b5 b6 b7 b8 b9 b10 b11 b12 b13 b14 b15 := by
  subst h0 h1 h2 h3 h4 h5 h6 h7 h8 h9 h10 h11 h12 h13 h14 h15; rfl

/-- Equal arguments give equal values of the reference's second result: the codes of the MLP's input. -/
theorem G17_congr {a0 b0 : Vec Ideal Cert.ReferenceIdeal.S1x8x90x360x192 .bf16} {a1 b1 : Vec Ideal Cert.ReferenceIdeal.S8x30x3x192x360 .fp8e4m3} {a2 b2 : Vec Ideal Cert.ReferenceIdeal.S30x3x8x360 .f32} {a3 b3 : Vec Ideal Cert.ReferenceIdeal.S6x32x192 .fp8e4m3} {a4 b4 : Vec Ideal Cert.ReferenceIdeal.S192 .f32} {a5 b5 : Vec Ideal Cert.ReferenceIdeal.S192 .f32} {a6 b6 : Vec Ideal Cert.ReferenceIdeal.S192x768 .fp8e4m3} {a7 b7 : Vec Ideal Cert.ReferenceIdeal.S768 .f32} {a8 b8 : Vec Ideal Cert.ReferenceIdeal.S768 .f32} {a9 b9 : Vec Ideal Cert.ReferenceIdeal.S768x192 .fp8e4m3} {a10 b10 : Vec Ideal Cert.ReferenceIdeal.S192 .f32} {a11 b11 : Vec Ideal Cert.ReferenceIdeal.S192 .f32} {a12 b12 : Vec Ideal Cert.ReferenceIdeal.S192 .f32} {a13 b13 : Vec Ideal Cert.ReferenceIdeal.S192 .f32} {a14 b14 : Vec Ideal Cert.ReferenceIdeal.S192 .f32} {a15 b15 : Vec Ideal Cert.ReferenceIdeal.S192 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    Cert.ReferenceIdeal.Value.G17 (F := Ideal) a0 a1 a2 a3 a4 a5 a6 a7 a8 a9 a10 a11 a12 a13 a14 a15 = Cert.ReferenceIdeal.Value.G17 b0 b1 b2 b3 b4 b5 b6 b7 b8 b9 b10 b11 b12 b13 b14 b15 := by
  subst h0 h1 h2 h3 h4 h5 h6 h7 h8 h9 h10 h11 h12 h13 h14 h15; rfl

/-- Equal arguments give equal values of the reference's third result: the scales of the MLP's input. -/
theorem G18_congr {a0 b0 : Vec Ideal Cert.ReferenceIdeal.S1x8x90x360x192 .bf16} {a1 b1 : Vec Ideal Cert.ReferenceIdeal.S8x30x3x192x360 .fp8e4m3} {a2 b2 : Vec Ideal Cert.ReferenceIdeal.S30x3x8x360 .f32} {a3 b3 : Vec Ideal Cert.ReferenceIdeal.S6x32x192 .fp8e4m3} {a4 b4 : Vec Ideal Cert.ReferenceIdeal.S192 .f32} {a5 b5 : Vec Ideal Cert.ReferenceIdeal.S192 .f32} {a6 b6 : Vec Ideal Cert.ReferenceIdeal.S192x768 .fp8e4m3} {a7 b7 : Vec Ideal Cert.ReferenceIdeal.S768 .f32} {a8 b8 : Vec Ideal Cert.ReferenceIdeal.S768 .f32} {a9 b9 : Vec Ideal Cert.ReferenceIdeal.S768x192 .fp8e4m3} {a10 b10 : Vec Ideal Cert.ReferenceIdeal.S192 .f32} {a11 b11 : Vec Ideal Cert.ReferenceIdeal.S192 .f32} {a12 b12 : Vec Ideal Cert.ReferenceIdeal.S192 .f32} {a13 b13 : Vec Ideal Cert.ReferenceIdeal.S192 .f32} {a14 b14 : Vec Ideal Cert.ReferenceIdeal.S192 .f32} {a15 b15 : Vec Ideal Cert.ReferenceIdeal.S192 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    Cert.ReferenceIdeal.Value.G18 (F := Ideal) a0 a1 a2 a3 a4 a5 a6 a7 a8 a9 a10 a11 a12 a13 a14 a15 = Cert.ReferenceIdeal.Value.G18 b0 b1 b2 b3 b4 b5 b6 b7 b8 b9 b10 b11 b12 b13 b14 b15 := by
  subst h0 h1 h2 h3 h4 h5 h6 h7 h8 h9 h10 h11 h12 h13 h14 h15; rfl

/-- Equal arguments give equal values of the reference's fourth result: the codes of the hidden layer. -/
theorem G19_congr {a0 b0 : Vec Ideal Cert.ReferenceIdeal.S1x8x90x360x192 .bf16} {a1 b1 : Vec Ideal Cert.ReferenceIdeal.S8x30x3x192x360 .fp8e4m3} {a2 b2 : Vec Ideal Cert.ReferenceIdeal.S30x3x8x360 .f32} {a3 b3 : Vec Ideal Cert.ReferenceIdeal.S6x32x192 .fp8e4m3} {a4 b4 : Vec Ideal Cert.ReferenceIdeal.S192 .f32} {a5 b5 : Vec Ideal Cert.ReferenceIdeal.S192 .f32} {a6 b6 : Vec Ideal Cert.ReferenceIdeal.S192x768 .fp8e4m3} {a7 b7 : Vec Ideal Cert.ReferenceIdeal.S768 .f32} {a8 b8 : Vec Ideal Cert.ReferenceIdeal.S768 .f32} {a9 b9 : Vec Ideal Cert.ReferenceIdeal.S768x192 .fp8e4m3} {a10 b10 : Vec Ideal Cert.ReferenceIdeal.S192 .f32} {a11 b11 : Vec Ideal Cert.ReferenceIdeal.S192 .f32} {a12 b12 : Vec Ideal Cert.ReferenceIdeal.S192 .f32} {a13 b13 : Vec Ideal Cert.ReferenceIdeal.S192 .f32} {a14 b14 : Vec Ideal Cert.ReferenceIdeal.S192 .f32} {a15 b15 : Vec Ideal Cert.ReferenceIdeal.S192 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    Cert.ReferenceIdeal.Value.G19 (F := Ideal) a0 a1 a2 a3 a4 a5 a6 a7 a8 a9 a10 a11 a12 a13 a14 a15 = Cert.ReferenceIdeal.Value.G19 b0 b1 b2 b3 b4 b5 b6 b7 b8 b9 b10 b11 b12 b13 b14 b15 := by
  subst h0 h1 h2 h3 h4 h5 h6 h7 h8 h9 h10 h11 h12 h13 h14 h15; rfl

/-- Equal arguments give equal values of the reference's fifth result: the scales of the hidden layer. -/
theorem G20_congr {a0 b0 : Vec Ideal Cert.ReferenceIdeal.S1x8x90x360x192 .bf16} {a1 b1 : Vec Ideal Cert.ReferenceIdeal.S8x30x3x192x360 .fp8e4m3} {a2 b2 : Vec Ideal Cert.ReferenceIdeal.S30x3x8x360 .f32} {a3 b3 : Vec Ideal Cert.ReferenceIdeal.S6x32x192 .fp8e4m3} {a4 b4 : Vec Ideal Cert.ReferenceIdeal.S192 .f32} {a5 b5 : Vec Ideal Cert.ReferenceIdeal.S192 .f32} {a6 b6 : Vec Ideal Cert.ReferenceIdeal.S192x768 .fp8e4m3} {a7 b7 : Vec Ideal Cert.ReferenceIdeal.S768 .f32} {a8 b8 : Vec Ideal Cert.ReferenceIdeal.S768 .f32} {a9 b9 : Vec Ideal Cert.ReferenceIdeal.S768x192 .fp8e4m3} {a10 b10 : Vec Ideal Cert.ReferenceIdeal.S192 .f32} {a11 b11 : Vec Ideal Cert.ReferenceIdeal.S192 .f32} {a12 b12 : Vec Ideal Cert.ReferenceIdeal.S192 .f32} {a13 b13 : Vec Ideal Cert.ReferenceIdeal.S192 .f32} {a14 b14 : Vec Ideal Cert.ReferenceIdeal.S192 .f32} {a15 b15 : Vec Ideal Cert.ReferenceIdeal.S192 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    Cert.ReferenceIdeal.Value.G20 (F := Ideal) a0 a1 a2 a3 a4 a5 a6 a7 a8 a9 a10 a11 a12 a13 a14 a15 = Cert.ReferenceIdeal.Value.G20 b0 b1 b2 b3 b4 b5 b6 b7 b8 b9 b10 b11 b12 b13 b14 b15 := by
  subst h0 h1 h2 h3 h4 h5 h6 h7 h8 h9 h10 h11 h12 h13 h14 h15; rfl

/-- From equal arguments the kernel and the reference end with equal results. -/
theorem algebraic : Cert.algebraic_KernelIdeal_ReferenceIdeal (hKernelIdeal := Cert.KernelIdeal.Gen.facts) (hReferenceIdeal := Cert.ReferenceIdeal.Gen.facts) := by
  intro m g m' g' _ heq
  refine ⟨fun c => Cert.ReferenceIdeal.Value.G16 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Value.G17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Value.G18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Value.G19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Value.G20 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    KernelIdeal.value_claim m g, ?_⟩
  refine (θ_run _ _ _).mono (fun r h c => ?_) (Cert.ReferenceIdeal.Value.run (F := Ideal) m' g')
  obtain ⟨e0, e1, e2, e3, e4, e5, e6, e7, e8, e9, e10, e11, e12, e13, e14, e15⟩ := heq c
  obtain ⟨h0, h1, h2, h3, h4, hk⟩ := h c
  exact ⟨h0.trans (G16_congr e0 e1 e2 e3 e4 e5 e6 e7 e8 e9 e10 e11 e12 e13 e14 e15), h1.trans (G17_congr e0 e1 e2 e3 e4 e5 e6 e7 e8 e9 e10 e11 e12 e13 e14 e15), h2.trans (G18_congr e0 e1 e2 e3 e4 e5 e6 e7 e8 e9 e10 e11 e12 e13 e14 e15), h3.trans (G19_congr e0 e1 e2 e3 e4 e5 e6 e7 e8 e9 e10 e11 e12 e13 e14 e15), h4.trans (G20_congr e0 e1 e2 e3 e4 e5 e6 e7 e8 e9 e10 e11 e12 e13 e14 e15), hk⟩

/-- All claims of the statement together: the four frames, the two idealizations, and the equality of the results. -/
theorem claim : Cert.Claim :=
  ⟨Cert.Kernel.Gen.facts, Cert.KernelIdeal.Gen.facts, Cert.ReferenceIdeal.Gen.facts, Cert.Reference.Gen.facts,
    fun m g _ => Kernel.frame_claim (F := Bits) m g,
    fun m g _ => KernelIdeal.frame_claim m g,
    fun m g _ => Cert.ReferenceIdeal.Gen.frame (F := Ideal) m g,
    fun m g _ => Cert.Reference.Gen.frame (F := Bits) m g,
    IdealRules.named_const.statement _ _ _ _ _ rfl,
    IdealRules.named_const.statement _ _ _ _ _ rfl,
    algebraic⟩

end Cert.Proof

end
